-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2 = (fun _ => 1#1)

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjIdeal_finite_out [hPre_finite_out : Cert.Pre_finite_out.Facts] (m : (ℓ : Loc Cert.OutProjIdeal.nD Cert.OutProjIdeal.τ Cert.OutProjIdeal.sig) → Buf (Elt Ideal) ℓ) : Prop :=
  ∀ c : Dev Cert.OutProjIdeal.nD,
    (Cert.Pre_finite_out.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)) (m ((c.tc : Thread Cert.OutProjIdeal.nD Cert.OutProjIdeal.τ).loc Cert.OutProjIdeal.main_arg7)) (m ((c.tc : Thread Cert.OutProjIdeal.nD Cert.OutProjIdeal.τ).loc Cert.OutProjIdeal.main_arg8)) (m ((c.tc : Thread Cert.OutProjIdeal.nD Cert.OutProjIdeal.τ).loc Cert.OutProjIdeal.main_arg9)) (m ((c.tc : Thread Cert.OutProjIdeal.nD Cert.OutProjIdeal.τ).loc Cert.OutProjIdeal.main_arg10))).1 = (fun _ => 1#1)
    ∧ (Cert.Pre_finite_out.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)) (m ((c.tc : Thread Cert.OutProjIdeal.nD Cert.OutProjIdeal.τ).loc Cert.OutProjIdeal.main_arg7)) (m ((c.tc : Thread Cert.OutProjIdeal.nD Cert.OutProjIdeal.τ).loc Cert.OutProjIdeal.main_arg8)) (m ((c.tc : Thread Cert.OutProjIdeal.nD Cert.OutProjIdeal.τ).loc Cert.OutProjIdeal.main_arg9)) (m ((c.tc : Thread Cert.OutProjIdeal.nD Cert.OutProjIdeal.τ).loc Cert.OutProjIdeal.main_arg10))).2.1 = (fun _ => 1#1)
    ∧ (Cert.Pre_finite_out.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)) (m ((c.tc : Thread Cert.OutProjIdeal.nD Cert.OutProjIdeal.τ).loc Cert.OutProjIdeal.main_arg7)) (m ((c.tc : Thread Cert.OutProjIdeal.nD Cert.OutProjIdeal.τ).loc Cert.OutProjIdeal.main_arg8)) (m ((c.tc : Thread Cert.OutProjIdeal.nD Cert.OutProjIdeal.τ).loc Cert.OutProjIdeal.main_arg9)) (m ((c.tc : Thread Cert.OutProjIdeal.nD Cert.OutProjIdeal.τ).loc Cert.OutProjIdeal.main_arg10))).2.2.1 = (fun _ => 1#1)
    ∧ (Cert.Pre_finite_out.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)) (m ((c.tc : Thread Cert.OutProjIdeal.nD Cert.OutProjIdeal.τ).loc Cert.OutProjIdeal.main_arg7)) (m ((c.tc : Thread Cert.OutProjIdeal.nD Cert.OutProjIdeal.τ).loc Cert.OutProjIdeal.main_arg8)) (m ((c.tc : Thread Cert.OutProjIdeal.nD Cert.OutProjIdeal.τ).loc Cert.OutProjIdeal.main_arg9)) (m ((c.tc : Thread Cert.OutProjIdeal.nD Cert.OutProjIdeal.τ).loc Cert.OutProjIdeal.main_arg10))).2.2.2.1 = (fun _ => 1#1)
    ∧ (Cert.Pre_finite_out.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)) (m ((c.tc : Thread Cert.OutProjIdeal.nD Cert.OutProjIdeal.τ).loc Cert.OutProjIdeal.main_arg7)) (m ((c.tc : Thread Cert.OutProjIdeal.nD Cert.OutProjIdeal.τ).loc Cert.OutProjIdeal.main_arg8)) (m ((c.tc : Thread Cert.OutProjIdeal.nD Cert.OutProjIdeal.τ).loc Cert.OutProjIdeal.main_arg9)) (m ((c.tc : Thread Cert.OutProjIdeal.nD Cert.OutProjIdeal.τ).loc Cert.OutProjIdeal.main_arg10))).2.2.2.2.1 = (fun _ => 1#1)
    ∧ (Cert.Pre_finite_out.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)) (m ((c.tc : Thread Cert.OutProjIdeal.nD Cert.OutProjIdeal.τ).loc Cert.OutProjIdeal.main_arg7)) (m ((c.tc : Thread Cert.OutProjIdeal.nD Cert.OutProjIdeal.τ).loc Cert.OutProjIdeal.main_arg8)) (m ((c.tc : Thread Cert.OutProjIdeal.nD Cert.OutProjIdeal.τ).loc Cert.OutProjIdeal.main_arg9)) (m ((c.tc : Thread Cert.OutProjIdeal.nD Cert.OutProjIdeal.τ).loc Cert.OutProjIdeal.main_arg10))).2.2.2.2.2.1 = (fun _ => 1#1)
    ∧ (Cert.Pre_finite_out.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)) (m ((c.tc : Thread Cert.OutProjIdeal.nD Cert.OutProjIdeal.τ).loc Cert.OutProjIdeal.main_arg7)) (m ((c.tc : Thread Cert.OutProjIdeal.nD Cert.OutProjIdeal.τ).loc Cert.OutProjIdeal.main_arg8)) (m ((c.tc : Thread Cert.OutProjIdeal.nD Cert.OutProjIdeal.τ).loc Cert.OutProjIdeal.main_arg9)) (m ((c.tc : Thread Cert.OutProjIdeal.nD Cert.OutProjIdeal.τ).loc Cert.OutProjIdeal.main_arg10))).2.2.2.2.2.2.1 = (fun _ => 1#1)
    ∧ (Cert.Pre_finite_out.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)) (m ((c.tc : Thread Cert.OutProjIdeal.nD Cert.OutProjIdeal.τ).loc Cert.OutProjIdeal.main_arg7)) (m ((c.tc : Thread Cert.OutProjIdeal.nD Cert.OutProjIdeal.τ).loc Cert.OutProjIdeal.main_arg8)) (m ((c.tc : Thread Cert.OutProjIdeal.nD Cert.OutProjIdeal.τ).loc Cert.OutProjIdeal.main_arg9)) (m ((c.tc : Thread Cert.OutProjIdeal.nD Cert.OutProjIdeal.τ).loc Cert.OutProjIdeal.main_arg10))).2.2.2.2.2.2.2.1 = (fun _ => 1#1)
    ∧ (Cert.Pre_finite_out.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)) (m ((c.tc : Thread Cert.OutProjIdeal.nD Cert.OutProjIdeal.τ).loc Cert.OutProjIdeal.main_arg7)) (m ((c.tc : Thread Cert.OutProjIdeal.nD Cert.OutProjIdeal.τ).loc Cert.OutProjIdeal.main_arg8)) (m ((c.tc : Thread Cert.OutProjIdeal.nD Cert.OutProjIdeal.τ).loc Cert.OutProjIdeal.main_arg9)) (m ((c.tc : Thread Cert.OutProjIdeal.nD Cert.OutProjIdeal.τ).loc Cert.OutProjIdeal.main_arg10))).2.2.2.2.2.2.2.2.1 = (fun _ => 1#1)
    ∧ (Cert.Pre_finite_out.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)) (m ((c.tc : Thread Cert.OutProjIdeal.nD Cert.OutProjIdeal.τ).loc Cert.OutProjIdeal.main_arg7)) (m ((c.tc : Thread Cert.OutProjIdeal.nD Cert.OutProjIdeal.τ).loc Cert.OutProjIdeal.main_arg8)) (m ((c.tc : Thread Cert.OutProjIdeal.nD Cert.OutProjIdeal.τ).loc Cert.OutProjIdeal.main_arg9)) (m ((c.tc : Thread Cert.OutProjIdeal.nD Cert.OutProjIdeal.τ).loc Cert.OutProjIdeal.main_arg10))).2.2.2.2.2.2.2.2.2.1 = (fun _ => 1#1)
    ∧ (Cert.Pre_finite_out.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)) (m ((c.tc : Thread Cert.OutProjIdeal.nD Cert.OutProjIdeal.τ).loc Cert.OutProjIdeal.main_arg7)) (m ((c.tc : Thread Cert.OutProjIdeal.nD Cert.OutProjIdeal.τ).loc Cert.OutProjIdeal.main_arg8)) (m ((c.tc : Thread Cert.OutProjIdeal.nD Cert.OutProjIdeal.τ).loc Cert.OutProjIdeal.main_arg9)) (m ((c.tc : Thread Cert.OutProjIdeal.nD Cert.OutProjIdeal.τ).loc Cert.OutProjIdeal.main_arg10))).2.2.2.2.2.2.2.2.2.2 = (fun _ => 1#1)

def Pre_OutProjRefIdeal (m : (ℓ : Loc Cert.OutProjRefIdeal.nD Cert.OutProjRefIdeal.τ Cert.OutProjRefIdeal.sig) → Buf (Elt Ideal) ℓ) : Prop :=
  True

def Pre_OutProjRefIdeal_finite_out [hPre_finite_out : Cert.Pre_finite_out.Facts] (m : (ℓ : Loc Cert.OutProjRefIdeal.nD Cert.OutProjRefIdeal.τ Cert.OutProjRefIdeal.sig) → Buf (Elt Ideal) ℓ) : Prop :=
  ∀ c : Dev Cert.OutProjRefIdeal.nD,
    (Cert.Pre_finite_out.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7)) (m ((c.tc : Thread Cert.OutProjRefIdeal.nD Cert.OutProjRefIdeal.τ).loc Cert.OutProjRefIdeal.main_arg8)) (m ((c.tc : Thread Cert.OutProjRefIdeal.nD Cert.OutProjRefIdeal.τ).loc Cert.OutProjRefIdeal.main_arg9)) (m ((c.tc : Thread Cert.OutProjRefIdeal.nD Cert.OutProjRefIdeal.τ).loc Cert.OutProjRefIdeal.main_arg10))).1 = (fun _ => 1#1)
    ∧ (Cert.Pre_finite_out.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7)) (m ((c.tc : Thread Cert.OutProjRefIdeal.nD Cert.OutProjRefIdeal.τ).loc Cert.OutProjRefIdeal.main_arg8)) (m ((c.tc : Thread Cert.OutProjRefIdeal.nD Cert.OutProjRefIdeal.τ).loc Cert.OutProjRefIdeal.main_arg9)) (m ((c.tc : Thread Cert.OutProjRefIdeal.nD Cert.OutProjRefIdeal.τ).loc Cert.OutProjRefIdeal.main_arg10))).2.1 = (fun _ => 1#1)
    ∧ (Cert.Pre_finite_out.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7)) (m ((c.tc : Thread Cert.OutProjRefIdeal.nD Cert.OutProjRefIdeal.τ).loc Cert.OutProjRefIdeal.main_arg8)) (m ((c.tc : Thread Cert.OutProjRefIdeal.nD Cert.OutProjRefIdeal.τ).loc Cert.OutProjRefIdeal.main_arg9)) (m ((c.tc : Thread Cert.OutProjRefIdeal.nD Cert.OutProjRefIdeal.τ).loc Cert.OutProjRefIdeal.main_arg10))).2.2.1 = (fun _ => 1#1)
    ∧ (Cert.Pre_finite_out.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7)) (m ((c.tc : Thread Cert.OutProjRefIdeal.nD Cert.OutProjRefIdeal.τ).loc Cert.OutProjRefIdeal.main_arg8)) (m ((c.tc : Thread Cert.OutProjRefIdeal.nD Cert.OutProjRefIdeal.τ).loc Cert.OutProjRefIdeal.main_arg9)) (m ((c.tc : Thread Cert.OutProjRefIdeal.nD Cert.OutProjRefIdeal.τ).loc Cert.OutProjRefIdeal.main_arg10))).2.2.2.1 = (fun _ => 1#1)
    ∧ (Cert.Pre_finite_out.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7)) (m ((c.tc : Thread Cert.OutProjRefIdeal.nD Cert.OutProjRefIdeal.τ).loc Cert.OutProjRefIdeal.main_arg8)) (m ((c.tc : Thread Cert.OutProjRefIdeal.nD Cert.OutProjRefIdeal.τ).loc Cert.OutProjRefIdeal.main_arg9)) (m ((c.tc : Thread Cert.OutProjRefIdeal.nD Cert.OutProjRefIdeal.τ).loc Cert.OutProjRefIdeal.main_arg10))).2.2.2.2.1 = (fun _ => 1#1)
    ∧ (Cert.Pre_finite_out.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7)) (m ((c.tc : Thread Cert.OutProjRefIdeal.nD Cert.OutProjRefIdeal.τ).loc Cert.OutProjRefIdeal.main_arg8)) (m ((c.tc : Thread Cert.OutProjRefIdeal.nD Cert.OutProjRefIdeal.τ).loc Cert.OutProjRefIdeal.main_arg9)) (m ((c.tc : Thread Cert.OutProjRefIdeal.nD Cert.OutProjRefIdeal.τ).loc Cert.OutProjRefIdeal.main_arg10))).2.2.2.2.2.1 = (fun _ => 1#1)
    ∧ (Cert.Pre_finite_out.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7)) (m ((c.tc : Thread Cert.OutProjRefIdeal.nD Cert.OutProjRefIdeal.τ).loc Cert.OutProjRefIdeal.main_arg8)) (m ((c.tc : Thread Cert.OutProjRefIdeal.nD Cert.OutProjRefIdeal.τ).loc Cert.OutProjRefIdeal.main_arg9)) (m ((c.tc : Thread Cert.OutProjRefIdeal.nD Cert.OutProjRefIdeal.τ).loc Cert.OutProjRefIdeal.main_arg10))).2.2.2.2.2.2.1 = (fun _ => 1#1)
    ∧ (Cert.Pre_finite_out.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7)) (m ((c.tc : Thread Cert.OutProjRefIdeal.nD Cert.OutProjRefIdeal.τ).loc Cert.OutProjRefIdeal.main_arg8)) (m ((c.tc : Thread Cert.OutProjRefIdeal.nD Cert.OutProjRefIdeal.τ).loc Cert.OutProjRefIdeal.main_arg9)) (m ((c.tc : Thread Cert.OutProjRefIdeal.nD Cert.OutProjRefIdeal.τ).loc Cert.OutProjRefIdeal.main_arg10))).2.2.2.2.2.2.2.1 = (fun _ => 1#1)
    ∧ (Cert.Pre_finite_out.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7)) (m ((c.tc : Thread Cert.OutProjRefIdeal.nD Cert.OutProjRefIdeal.τ).loc Cert.OutProjRefIdeal.main_arg8)) (m ((c.tc : Thread Cert.OutProjRefIdeal.nD Cert.OutProjRefIdeal.τ).loc Cert.OutProjRefIdeal.main_arg9)) (m ((c.tc : Thread Cert.OutProjRefIdeal.nD Cert.OutProjRefIdeal.τ).loc Cert.OutProjRefIdeal.main_arg10))).2.2.2.2.2.2.2.2.1 = (fun _ => 1#1)
    ∧ (Cert.Pre_finite_out.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7)) (m ((c.tc : Thread Cert.OutProjRefIdeal.nD Cert.OutProjRefIdeal.τ).loc Cert.OutProjRefIdeal.main_arg8)) (m ((c.tc : Thread Cert.OutProjRefIdeal.nD Cert.OutProjRefIdeal.τ).loc Cert.OutProjRefIdeal.main_arg9)) (m ((c.tc : Thread Cert.OutProjRefIdeal.nD Cert.OutProjRefIdeal.τ).loc Cert.OutProjRefIdeal.main_arg10))).2.2.2.2.2.2.2.2.2.1 = (fun _ => 1#1)
    ∧ (Cert.Pre_finite_out.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7)) (m ((c.tc : Thread Cert.OutProjRefIdeal.nD Cert.OutProjRefIdeal.τ).loc Cert.OutProjRefIdeal.main_arg8)) (m ((c.tc : Thread Cert.OutProjRefIdeal.nD Cert.OutProjRefIdeal.τ).loc Cert.OutProjRefIdeal.main_arg9)) (m ((c.tc : Thread Cert.OutProjRefIdeal.nD Cert.OutProjRefIdeal.τ).loc Cert.OutProjRefIdeal.main_arg10))).2.2.2.2.2.2.2.2.2.2 = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_zero_gap [hPre_zero_gap : Cert.Pre_zero_gap.Facts] (m : (ℓ : Loc Cert.PrepIdeal.nD Cert.PrepIdeal.τ Cert.PrepIdeal.sig) → Buf (Elt Ideal) ℓ) : Prop :=
  ∀ c : Dev Cert.PrepIdeal.nD,
    (Cert.Pre_zero_gap.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_zero_gap [hPre_zero_gap : Cert.Pre_zero_gap.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_zero_gap.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8)
      ∧ r.2.mem ((c.tc : Thread Cert.OutProj.nD Cert.OutProj.τ).loc Cert.OutProj.main_arg9) = m ((c.tc : Thread Cert.OutProj.nD Cert.OutProj.τ).loc Cert.OutProj.main_arg9)
      ∧ r.2.mem ((c.tc : Thread Cert.OutProj.nD Cert.OutProj.τ).loc Cert.OutProj.main_arg10) = m ((c.tc : Thread Cert.OutProj.nD Cert.OutProj.τ).loc Cert.OutProj.main_arg10))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
      ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10))
      ∧ r.2.sem = fun _ => 0)

def quiescent_OutProjIdeal_pre_finite_out [hOutProjIdeal : Cert.OutProjIdeal.Facts] [hPre_finite_out : Cert.Pre_finite_out.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal_finite_out m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
      ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8)
      ∧ r.2.mem ((c.tc : Thread Cert.OutProjRefIdeal.nD Cert.OutProjRefIdeal.τ).loc Cert.OutProjRefIdeal.main_arg9) = m ((c.tc : Thread Cert.OutProjRefIdeal.nD Cert.OutProjRefIdeal.τ).loc Cert.OutProjRefIdeal.main_arg9)
      ∧ r.2.mem ((c.tc : Thread Cert.OutProjRefIdeal.nD Cert.OutProjRefIdeal.τ).loc Cert.OutProjRefIdeal.main_arg10) = m ((c.tc : Thread Cert.OutProjRefIdeal.nD Cert.OutProjRefIdeal.τ).loc Cert.OutProjRefIdeal.main_arg10))
      ∧ r.2.sem = fun _ => 0)

def quiescent_OutProjRefIdeal_pre_finite_out [hOutProjRefIdeal : Cert.OutProjRefIdeal.Facts] [hPre_finite_out : Cert.Pre_finite_out.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal_finite_out m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8)
      ∧ r.2.mem ((c.tc : Thread Cert.OutProjRefIdeal.nD Cert.OutProjRefIdeal.τ).loc Cert.OutProjRefIdeal.main_arg9) = m ((c.tc : Thread Cert.OutProjRefIdeal.nD Cert.OutProjRefIdeal.τ).loc Cert.OutProjRefIdeal.main_arg9)
      ∧ r.2.mem ((c.tc : Thread Cert.OutProjRefIdeal.nD Cert.OutProjRefIdeal.τ).loc Cert.OutProjRefIdeal.main_arg10) = m ((c.tc : Thread Cert.OutProjRefIdeal.nD Cert.OutProjRefIdeal.τ).loc Cert.OutProjRefIdeal.main_arg10))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ r.2.sem = fun _ => 0)

def quiescent_PrepIdeal_pre_zero_gap [hPrepIdeal : Cert.PrepIdeal.Facts] [hPre_zero_gap : Cert.Pre_zero_gap.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_zero_gap m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5))
      ∧ r.2.sem = fun _ => 0)

def quiescent_PrepRefIdeal_pre_zero_gap [hPrepRefIdeal : Cert.PrepRefIdeal.Facts] [hPre_zero_gap : Cert.Pre_zero_gap.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_zero_gap m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5))
      ∧ r.2.sem = fun _ => 0)

def preserves_Attn_AttnIdeal : Prop :=
  True

def preserves_Moe_MoeIdeal : Prop :=
  True

def preserves_InProj_InProjIdeal : Prop :=
  True

def preserves_OutProj_OutProjIdeal : Prop :=
  True

def preserves_Prep_PrepIdeal : Prop :=
  True

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v21) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v5)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v5) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v35) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v14_0)) (v1 : (c : Dev Cert.InProjIdeal.nD) → Buf (Elt Ideal) ((c.tc : Thread Cert.InProjIdeal.nD Cert.InProjIdeal.τ).loc Cert.InProjIdeal.main_v14_1)) (v2 : (c : Dev Cert.InProjIdeal.nD) → Buf (Elt Ideal) ((c.tc : Thread Cert.InProjIdeal.nD Cert.InProjIdeal.τ).loc Cert.InProjIdeal.main_v14_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v14_0) = v0 c
          ∧ r.2.mem ((c.tc : Thread Cert.InProjIdeal.nD Cert.InProjIdeal.τ).loc Cert.InProjIdeal.main_v14_1) = v1 c
          ∧ r.2.mem ((c.tc : Thread Cert.InProjIdeal.nD Cert.InProjIdeal.τ).loc Cert.InProjIdeal.main_v14_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v5) = v0 c
          ∧ r.2.mem ((c.tc : Thread Cert.InProjRefIdeal.nD Cert.InProjRefIdeal.τ).loc Cert.InProjRefIdeal.main_v8) = v1 c
          ∧ r.2.mem ((c.tc : Thread Cert.InProjRefIdeal.nD Cert.InProjRefIdeal.τ).loc Cert.InProjRefIdeal.main_v11) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def algebraic_OutProjIdeal_OutProjRefIdeal_pre_finite_out [hOutProjIdeal : Cert.OutProjIdeal.Facts] [hOutProjRefIdeal : Cert.OutProjRefIdeal.Facts] [hPre_finite_out : Cert.Pre_finite_out.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal_finite_out m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)
      ∧ m' ((c.tc : Thread Cert.OutProjRefIdeal.nD Cert.OutProjRefIdeal.τ).loc Cert.OutProjRefIdeal.main_arg9) = m ((c.tc : Thread Cert.OutProjIdeal.nD Cert.OutProjIdeal.τ).loc Cert.OutProjIdeal.main_arg9)
      ∧ m' ((c.tc : Thread Cert.OutProjRefIdeal.nD Cert.OutProjRefIdeal.τ).loc Cert.OutProjRefIdeal.main_arg10) = m ((c.tc : Thread Cert.OutProjIdeal.nD Cert.OutProjIdeal.τ).loc Cert.OutProjIdeal.main_arg10)) →
    ∃ (v0 : (c : Dev Cert.OutProjIdeal.nD) → Buf (Elt Ideal) ((c.tc : Thread Cert.OutProjIdeal.nD Cert.OutProjIdeal.τ).loc Cert.OutProjIdeal.main_v11_0)) (v1 : (c : Dev Cert.OutProjIdeal.nD) → Buf (Elt Ideal) ((c.tc : Thread Cert.OutProjIdeal.nD Cert.OutProjIdeal.τ).loc Cert.OutProjIdeal.main_v11_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v11_0) = v0 c
          ∧ r.2.mem ((c.tc : Thread Cert.OutProjIdeal.nD Cert.OutProjIdeal.τ).loc Cert.OutProjIdeal.main_v11_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
          ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
          ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v31) = v0 c
          ∧ r.2.mem ((c.tc : Thread Cert.OutProjRefIdeal.nD Cert.OutProjRefIdeal.τ).loc Cert.OutProjRefIdeal.main_v80) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8)
          ∧ r.2.mem ((c.tc : Thread Cert.OutProjRefIdeal.nD Cert.OutProjRefIdeal.τ).loc Cert.OutProjRefIdeal.main_arg9) = m' ((c.tc : Thread Cert.OutProjRefIdeal.nD Cert.OutProjRefIdeal.τ).loc Cert.OutProjRefIdeal.main_arg9)
          ∧ r.2.mem ((c.tc : Thread Cert.OutProjRefIdeal.nD Cert.OutProjRefIdeal.τ).loc Cert.OutProjRefIdeal.main_arg10) = m' ((c.tc : Thread Cert.OutProjRefIdeal.nD Cert.OutProjRefIdeal.τ).loc Cert.OutProjRefIdeal.main_arg10))

def algebraic_PrepIdeal_PrepRefIdeal_pre_zero_gap [hPrepIdeal : Cert.PrepIdeal.Facts] [hPrepRefIdeal : Cert.PrepRefIdeal.Facts] [hPre_zero_gap : Cert.Pre_zero_gap.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_zero_gap m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)) →
    ∃ (v0 : (c : Dev Cert.PrepIdeal.nD) → Buf (Elt Ideal) ((c.tc : Thread Cert.PrepIdeal.nD Cert.PrepIdeal.τ).loc Cert.PrepIdeal.main_v38_0)) (v1 : (c : Dev Cert.PrepIdeal.nD) → Buf (Elt Ideal) ((c.tc : Thread Cert.PrepIdeal.nD Cert.PrepIdeal.τ).loc Cert.PrepIdeal.main_v38_1)) (v2 : (c : Dev Cert.PrepIdeal.nD) → Buf (Elt Ideal) ((c.tc : Thread Cert.PrepIdeal.nD Cert.PrepIdeal.τ).loc Cert.PrepIdeal.main_v38_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v38_0) = v0 c
          ∧ r.2.mem ((c.tc : Thread Cert.PrepIdeal.nD Cert.PrepIdeal.τ).loc Cert.PrepIdeal.main_v38_1) = v1 c
          ∧ r.2.mem ((c.tc : Thread Cert.PrepIdeal.nD Cert.PrepIdeal.τ).loc Cert.PrepIdeal.main_v38_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v87) = v0 c
          ∧ r.2.mem ((c.tc : Thread Cert.PrepRefIdeal.nD Cert.PrepRefIdeal.τ).loc Cert.PrepRefIdeal.main_v90) = v1 c
          ∧ r.2.mem ((c.tc : Thread Cert.PrepRefIdeal.nD Cert.PrepRefIdeal.τ).loc Cert.PrepRefIdeal.main_v93) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5))

def Claim : Prop :=
  ∃ (hAttn : Cert.Attn.Facts) (hAttnIdeal : Cert.AttnIdeal.Facts) (hAttnRefIdeal : Cert.AttnRefIdeal.Facts) (hMoe : Cert.Moe.Facts) (hMoeIdeal : Cert.MoeIdeal.Facts) (hMoeRefIdeal : Cert.MoeRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hPrep : Cert.Prep.Facts) (hPrepIdeal : Cert.PrepIdeal.Facts) (hPrepRefIdeal : Cert.PrepRefIdeal.Facts) (hPre_finite_qk : Cert.Pre_finite_qk.Facts) (hPre_finite_out : Cert.Pre_finite_out.Facts) (hPre_zero_gap : Cert.Pre_zero_gap.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_Moe (hMoe := hMoe)
    ∧ quiescent_MoeIdeal (hMoeIdeal := hMoeIdeal)
    ∧ quiescent_MoeRefIdeal (hMoeRefIdeal := hMoeRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjIdeal_pre_finite_out (hOutProjIdeal := hOutProjIdeal) (hPre_finite_out := hPre_finite_out)
    ∧ quiescent_OutProjRefIdeal (hOutProjRefIdeal := hOutProjRefIdeal)
    ∧ quiescent_OutProjRefIdeal_pre_finite_out (hOutProjRefIdeal := hOutProjRefIdeal) (hPre_finite_out := hPre_finite_out)
    ∧ quiescent_Prep (hPrep := hPrep)
    ∧ quiescent_PrepIdeal (hPrepIdeal := hPrepIdeal)
    ∧ quiescent_PrepIdeal_pre_zero_gap (hPrepIdeal := hPrepIdeal) (hPre_zero_gap := hPre_zero_gap)
    ∧ quiescent_PrepRefIdeal (hPrepRefIdeal := hPrepRefIdeal)
    ∧ quiescent_PrepRefIdeal_pre_zero_gap (hPrepRefIdeal := hPrepRefIdeal) (hPre_zero_gap := hPre_zero_gap)
    ∧ preserves_Attn_AttnIdeal
    ∧ preserves_Moe_MoeIdeal
    ∧ preserves_InProj_InProjIdeal
    ∧ preserves_OutProj_OutProjIdeal
    ∧ preserves_Prep_PrepIdeal
    ∧ algebraic_AttnIdeal_AttnRefIdeal_pre_finite_qk (hAttnIdeal := hAttnIdeal) (hAttnRefIdeal := hAttnRefIdeal) (hPre_finite_qk := hPre_finite_qk)
    ∧ algebraic_MoeIdeal_MoeRefIdeal (hMoeIdeal := hMoeIdeal) (hMoeRefIdeal := hMoeRefIdeal)
    ∧ algebraic_InProjIdeal_InProjRefIdeal (hInProjIdeal := hInProjIdeal) (hInProjRefIdeal := hInProjRefIdeal)
    ∧ algebraic_OutProjIdeal_OutProjRefIdeal_pre_finite_out (hOutProjIdeal := hOutProjIdeal) (hOutProjRefIdeal := hOutProjRefIdeal) (hPre_finite_out := hPre_finite_out)
    ∧ algebraic_PrepIdeal_PrepRefIdeal_pre_zero_gap (hPrepIdeal := hPrepIdeal) (hPrepRefIdeal := hPrepRefIdeal) (hPre_zero_gap := hPre_zero_gap)
-- ==== Pre_finite_out.lean ====
abbrev S16384x1024 : Shape := ⟨2, ![16384, 1024]⟩
abbrev S16384x512 : Shape := ⟨2, ![16384, 512]⟩
abbrev S16384x256 : Shape := ⟨2, ![16384, 256]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S4x1024x4 : Shape := ⟨3, ![4, 1024, 4]⟩
abbrev S4x4 : Shape := ⟨2, ![4, 4]⟩
abbrev S_ : Shape := ⟨0, ![]⟩

class Facts : Prop where
  bcast_S_S16384x1024 : S_.BroadcastsInDim S16384x1024 (![] : Fin 0 → Fin S16384x1024.rank)
  bcast_S_S16384x512 : S_.BroadcastsInDim S16384x512 (![] : Fin 0 → Fin S16384x512.rank)
  bcast_S_S16384x256 : S_.BroadcastsInDim S16384x256 (![] : Fin 0 → Fin S16384x256.rank)
  bcast_S_S1024x1024 : S_.BroadcastsInDim S1024x1024 (![] : Fin 0 → Fin S1024x1024.rank)
  bcast_S_S1024 : S_.BroadcastsInDim S1024 (![] : Fin 0 → Fin S1024.rank)
  bcast_S_S1024x4 : S_.BroadcastsInDim S1024x4 (![] : Fin 0 → Fin S1024x4.rank)
  bcast_S_S4 : S_.BroadcastsInDim S4 (![] : Fin 0 → Fin S4.rank)
  bcast_S_S4x1024x4 : S_.BroadcastsInDim S4x1024x4 (![] : Fin 0 → Fin S4x1024x4.rank)
  bcast_S_S4x4 : S_.BroadcastsInDim S4x4 (![] : Fin 0 → Fin S4x4.rank)

variable [Facts]

def fn_part1 {F : FTy → Type} [FloatOps F] (main_arg6 : FVec F S1024 .f32) (main_arg7 : FVec F S1024x4 .f32) (main_arg8 : FVec F S4 .f32) (main_arg9 : FVec F S4x1024x4 .f32) (main_arg10 : FVec F S4x4 .f32) (main_v2 : IVec S16384x1024 1) (main_v5 : IVec S16384x512 1) (main_v8 : IVec S16384x256 1) (main_v11 : IVec S16384x256 1) (main_v14 : IVec S1024x1024 1) (main_v17 : IVec S1024 1) : IVec S16384x1024 1 × IVec S16384x512 1 × IVec S16384x256 1 × IVec S16384x256 1 × IVec S1024x1024 1 × IVec S1024 1 × IVec S1024 1 × IVec S1024x4 1 × IVec S4 1 × IVec S4x1024x4 1 × IVec S4x4 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S1024x4 .f32 := Host.absf main_arg7
  let main_cst_6 : FVec F S_ .f32 := constant S_ .f32 0x7F800000#32
  let main_v22 : FVec F S1024x4 .f32 := broadcastInDim S1024x4 ![] bcast_S_S1024x4 main_cst_6
  let main_v23 : IVec S1024x4 1 := cmpf .olt main_v21 main_v22
  let main_v24 : FVec F S4 .f32 := Host.absf main_arg8
  let main_cst_7 : FVec F S_ .f32 := constant S_ .f32 0x7F800000#32
  let main_v25 : FVec F S4 .f32 := broadcastInDim S4 ![] bcast_S_S4 main_cst_7
  let main_v26 : IVec S4 1 := cmpf .olt main_v24 main_v25
  let main_v27 : FVec F S4x1024x4 .f32 := Host.absf main_arg9
  let main_cst_8 : FVec F S_ .f32 := constant S_ .f32 0x7F800000#32
  let main_v28 : FVec F S4x1024x4 .f32 := broadcastInDim S4x1024x4 ![] bcast_S_S4x1024x4 main_cst_8
  let main_v29 : IVec S4x1024x4 1 := cmpf .olt main_v27 main_v28
  let main_v30 : FVec F S4x4 .f32 := Host.absf main_arg10
  let main_cst_9 : FVec F S_ .f32 := constant S_ .f32 0x7F800000#32
  let main_v31 : FVec F S4x4 .f32 := broadcastInDim S4x4 ![] bcast_S_S4x4 main_cst_9
  let main_v32 : IVec S4x4 1 := cmpf .olt main_v30 main_v31
  (main_v2, main_v5, main_v8, main_v11, main_v14, main_v17, main_v20, main_v23, main_v26, main_v29, main_v32)

def fn {F : FTy → Type} [FloatOps F] (main_arg0 : FVec F S16384x1024 .f32) (main_arg1 : FVec F S16384x512 .bf16) (main_arg2 : FVec F S16384x256 .bf16) (main_arg3 : FVec F S16384x256 .bf16) (main_arg4 : FVec F S1024x1024 .f32) (main_arg5 : FVec F S1024 .f32) (main_arg6 : FVec F S1024 .f32) (main_arg7 : FVec F S1024x4 .f32) (main_arg8 : FVec F S4 .f32) (main_arg9 : FVec F S4x1024x4 .f32) (main_arg10 : FVec F S4x4 .f32) : IVec S16384x1024 1 × IVec S16384x512 1 × IVec S16384x256 1 × IVec S16384x256 1 × IVec S1024x1024 1 × IVec S1024 1 × IVec S1024 1 × IVec S1024x4 1 × IVec S4 1 × IVec S4x1024x4 1 × IVec S4x4 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x512 .bf16 := Host.absf main_arg1
  let main_cst_0 : FVec F S_ .bf16 := constant S_ .bf16 0x7F80#16
  let main_v4 : FVec F S16384x512 .bf16 := broadcastInDim S16384x512 ![] bcast_S_S16384x512 main_cst_0
  let main_v5 : IVec S16384x512 1 := cmpf .olt main_v3 main_v4
  let main_v6 : FVec F S16384x256 .bf16 := Host.absf main_arg2
  let main_cst_1 : FVec F S_ .bf16 := constant S_ .bf16 0x7F80#16
  let main_v7 : FVec F S16384x256 .bf16 := broadcastInDim S16384x256 ![] bcast_S_S16384x256 main_cst_1
  let main_v8 : IVec S16384x256 1 := cmpf .olt main_v6 main_v7
  let main_v9 : FVec F S16384x256 .bf16 := Host.absf main_arg3
  let main_cst_2 : FVec F S_ .bf16 := constant S_ .bf16 0x7F80#16
  let main_v10 : FVec F S16384x256 .bf16 := broadcastInDim S16384x256 ![] bcast_S_S16384x256 main_cst_2
  let main_v11 : IVec S16384x256 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_arg8 main_arg9 main_arg10 main_v2 main_v5 main_v8 main_v11 main_v14 main_v17
-- ==== Pre_finite_qk.lean ====
abbrev S8x2048x1024 : Shape := ⟨3, ![8, 2048, 1024]⟩
abbrev S8x2048x512 : Shape := ⟨3, ![8, 2048, 512]⟩
abbrev S_ : Shape := ⟨0, ![]⟩

class Facts : Prop where
  bcast_S_S8x2048x1024 : S_.BroadcastsInDim S8x2048x1024 (![] : Fin 0 → Fin S8x2048x1024.rank)

variable [Facts]

def fn {F : FTy → Type} [FloatOps F] (main_arg0 : FVec F S8x2048x1024 .bf16) (main_arg1 : FVec F S8x2048x1024 .bf16) (main_arg2 : FVec F S8x2048x512 .bf16) : IVec S8x2048x1024 1 × IVec S8x2048x1024 1 :=
  let main_v0 : FVec F S8x2048x1024 .bf16 := Host.absf main_arg0
  let main_cst : FVec F S_ .bf16 := constant S_ .bf16 0x7F80#16
  let main_v1 : FVec F S8x2048x1024 .bf16 := broadcastInDim S8x2048x1024 ![] bcast_S_S8x2048x1024 main_cst
  let main_v2 : IVec S8x2048x1024 1 := cmpf .olt main_v0 main_v1
  let main_v3 : FVec F S8x2048x1024 .bf16 := Host.absf main_arg1
  let main_cst_0 : FVec F S_ .bf16 := constant S_ .bf16 0x7F80#16
  let main_v4 : FVec F S8x2048x1024 .bf16 := broadcastInDim S8x2048x1024 ![] bcast_S_S8x2048x1024 main_cst_0
  let main_v5 : IVec S8x2048x1024 1 := cmpf .olt main_v3 main_v4
  (main_v2, main_v5)
-- ==== Pre_zero_gap.lean ====
abbrev S16384x512 : Shape := ⟨2, ![16384, 512]⟩
abbrev S8x2048 : Shape := ⟨2, ![8, 2048]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S16384x64 : Shape := ⟨2, ![16384, 64]⟩
abbrev S_ : Shape := ⟨0, ![]⟩

class Facts : Prop where
  slices_S16384x512_S16384x64_0_384 : S16384x512.Slices ![0, 384] S16384x64
  bcast_S_S16384x64 : S_.BroadcastsInDim S16384x64 (![] : Fin 0 → Fin S16384x64.rank)

variable [Facts]

def fn {F : FTy → Type} [FloatOps F] (main_arg0 : FVec F S16384x512 .f32) (main_arg1 : IVec S8x2048 32) (main_arg2 : FVec F S256 .f32) (main_arg3 : FVec F S128 .f32) (main_arg4 : FVec F S256x768 .f32) (main_arg5 : FVec F S128x1024 .f32) : IVec S16384x64 1 :=
  let main_v0 : FVec F S16384x64 .f32 := (extractStridedSlice S16384x64 ![0, 384] · slices_S16384x512_S16384x64_0_384) main_arg0
  let main_cst : FVec F S_ .f32 := constant S_ .f32 0x00000000#32
  let main_v1 : FVec F S16384x64 .f32 := broadcastInDim S16384x64 ![] bcast_S_S16384x64 main_cst
  let main_v2 : IVec S16384x64 1 := cmpf .oeq main_v0 main_v1
  main_v2
-- ==== Attn.lean ====
abbrev S8x2048x1024 : Shape := ⟨3, ![8, 2048, 1024]⟩
abbrev S8x2048x512 : Shape := ⟨3, ![8, 2048, 512]⟩
abbrev S1x256x256 : Shape := ⟨3, ![1, 256, 256]⟩
abbrev S1x2048x256 : Shape := ⟨3, ![1, 2048, 256]⟩
abbrev S1x2048x128 : Shape := ⟨3, ![1, 2048, 128]⟩
abbrev S1x256x128 : Shape := ⟨3, ![1, 256, 128]⟩
abbrev S2048x128 : Shape := ⟨2, ![2048, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x512, .bf16⟩
  | .hbm, ⟨3, _⟩ => ⟨S8x2048x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S8x2048x1024 : Shape := ⟨3, ![8, 2048, 1024]⟩
abbrev S8x2048x512 : Shape := ⟨3, ![8, 2048, 512]⟩
abbrev S8x2048x8x128 : Shape := ⟨4, ![8, 2048, 8, 128]⟩
abbrev S8x2048x8x64 : Shape := ⟨4, ![8, 2048, 8, 64]⟩
abbrev S8x8x2048x2048 : Shape := ⟨4, ![8, 8, 2048, 2048]⟩
abbrev S_ : Shape := ⟨0, ![]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩

abbrev nBuf : Space → Nat
  | .hbm => 28
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x512, .bf16⟩
  | .hbm, ⟨3, _⟩ => ⟨S8x2048x1024, .f32⟩
  | .hbm, ⟨4, _⟩ => ⟨S8x2048x8x128, .f32⟩
  | .hbm, ⟨5, _⟩ => ⟨S8x2048x1024, .f32⟩
  | .hbm, ⟨6, _⟩ => ⟨S8x2048x8x128, .f32⟩
  | .hbm, ⟨7, _⟩ => ⟨S8x2048x512, .f32⟩
  | .hbm, ⟨8, _⟩ => ⟨S8x2048x8x64, .f32⟩
  | .hbm, ⟨9, _⟩ => ⟨S8x8x2048x2048, .f32⟩
  | .hbm, ⟨10, _⟩ => ⟨S_, .f32⟩
  | .hbm, ⟨11, _⟩ => ⟨S8x8x2048, .f32⟩
  | .hbm, ⟨12, _⟩ => ⟨S_, .f32⟩
  | .hbm, ⟨13, _⟩ => ⟨S8x8x2048, .f32⟩
  | .hbm, ⟨14, _⟩ => ⟨S8x8x2048, .f32⟩
  | .hbm, ⟨15, _⟩ => ⟨S8x8x2048x1, .f32⟩
  | .hbm, ⟨16, _⟩ => ⟨S8x8x2048x2048, .f32⟩
  | .hbm, ⟨17, _⟩ => ⟨S8x8x2048x2048, .f32⟩
  | .hbm, ⟨18, _⟩ => ⟨S8x8x2048x2048, .f32⟩
  | .hbm, ⟨19, _⟩ => ⟨S_, .f32⟩
  | .hbm, ⟨20, _⟩ => ⟨S8x8x2048, .f32⟩
  | .hbm, ⟨21, _⟩ => ⟨S8x8x2048x1, .f32⟩
  | .hbm, ⟨22, _⟩ => ⟨S8x8x2048x2048, .f32⟩
  | .hbm, ⟨23, _⟩ => ⟨S8x8x2048x2048, .f32⟩
  | .hbm, ⟨24, _⟩ => ⟨S8x8x64x2048, .f32⟩
  | .hbm, ⟨25, _⟩ => ⟨S8x2048x8x64, .f32⟩
  | .hbm, ⟨26, _⟩ => ⟨S8x2048x512, .f32⟩
  | .hbm, ⟨27, _⟩ => ⟨S8x2048x512, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Moe.lean ====
abbrev S16384x1024 : Shape := ⟨2, ![16384, 1024]⟩
abbrev S16384x128 : Shape := ⟨2, ![16384, 128]⟩
abbrev S16x1024x256 : Shape := ⟨3, ![16, 1024, 256]⟩
abbrev S16x256x1024 : Shape := ⟨3, ![16, 256, 1024]⟩
abbrev S1024 : Shape := ⟨1, ![1024]⟩
abbrev S1x1024 : Shape := ⟨2, ![1, 1024]⟩
abbrev S1024x1024 : Shape := ⟨2, ![1024, 1024]⟩
abbrev S1024x128 : Shape := ⟨2, ![1024, 128]⟩
abbrev S1x1024x256 : Shape := ⟨3, ![1, 1024, 256]⟩
abbrev S1x256x1024 : Shape := ⟨3, ![1, 256, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 13
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S16x1024x256, .f32⟩
  | .hbm, ⟨3, _⟩ => ⟨S16x1024x256, .f32⟩
  | .hbm, ⟨4, _⟩ => ⟨S16x256x1024, .f32⟩
  | .hbm, ⟨5, _⟩ => ⟨S1024, .f32⟩
  | .hbm, ⟨6, _⟩ => ⟨S1024, .f32⟩
  | .hbm, ⟨7, _⟩ => ⟨S16x1024x256, .bf16⟩
  | .hbm, ⟨8, _⟩ => ⟨S16x1024x256, .bf16⟩
  | .hbm, ⟨9, _⟩ => ⟨S16x256x1024, .bf16⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v39 : BitVec 1 := Scalar.cmpi .eq arg1 c15_i32
  let v40 : BitVec 32 := Scalar.extui v39
  let c0_i32_24 : BitVec 32 := 0#32
  let v41 : BitVec 1 := Scalar.cmpi .ne v40 c0_i32_24
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MoeRefIdeal.lean ====
abbrev S16384x1024 : Shape := ⟨2, ![16384, 1024]⟩
abbrev S16384x128 : Shape := ⟨2, ![16384, 128]⟩
abbrev S16x1024x256 : Shape := ⟨3, ![16, 1024, 256]⟩
abbrev S16x256x1024 : Shape := ⟨3, ![16, 256, 1024]⟩
abbrev S1024 : Shape := ⟨1, ![1024]⟩
abbrev S16384x16 : Shape := ⟨2, ![16384, 16]⟩
abbrev S16384x16x256 : Shape := ⟨3, ![16384, 16, 256]⟩
abbrev S_ : Shape := ⟨0, ![]⟩
abbrev S16384x16x1 : Shape := ⟨3, ![16384, 16, 1]⟩
abbrev S16384 : Shape := ⟨1, ![16384]⟩
abbrev S16384x1 : Shape := ⟨2, ![16384, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S16x1024x256, .f32⟩
  | .hbm, ⟨3, _⟩ => ⟨S16x1024x256, .f32⟩
  | .hbm, ⟨4, _⟩ => ⟨S16x256x1024, .f32⟩
  | .hbm, ⟨5, _⟩ => ⟨S1024, .f32⟩
  | .hbm, ⟨6, _⟩ => ⟨S1024, .f32⟩
  | .hbm, ⟨7, _⟩ => ⟨S16384x16, .f32⟩
  | .hbm, ⟨8, _⟩ => ⟨S16384x16x256, .f32⟩
  | .hbm, ⟨9, _⟩ => ⟨S16384x16x256, .f32⟩
  | .hbm, ⟨10, _⟩ => ⟨S16384x16x256, .f32⟩
  | .hbm, ⟨11, _⟩ => ⟨S_, .f32⟩
  | .hbm, ⟨12, _⟩ => ⟨S16384x16x256, .f32⟩
  | .hbm, ⟨13, _⟩ => ⟨S16384x16x256, .f32⟩
  | .hbm, ⟨14, _⟩ => ⟨S_, .f32⟩
  | .hbm, ⟨15, _⟩ => ⟨S16384x16x256, .f32⟩
  | .hbm, ⟨16, _⟩ => ⟨S16384x16x256, .f32⟩
  | .hbm, ⟨17, _⟩ => ⟨S16384x16x256, .f32⟩
  | .hbm, ⟨18, _⟩ => ⟨S16384x16x256, .f32⟩
  | .hbm, ⟨19, _⟩ => ⟨S16384x16x256, .f32⟩
  | .hbm, ⟨20, _⟩ => ⟨S16384x16x1, .f32⟩
  | .hbm, ⟨21, _⟩ => ⟨S16384x16x256, .f32⟩
  | .hbm, ⟨22, _⟩ => ⟨S16384x16x256, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== InProj.lean ====
abbrev S16384x1024 : Shape := ⟨2, ![16384, 1024]⟩
abbrev S1024x2488 : Shape := ⟨2, ![1024, 2488]⟩
abbrev S1024x384 : Shape := ⟨2, ![1024, 384]⟩
abbrev S_ : Shape := ⟨0, ![]⟩
abbrev S1024x64 : Shape := ⟨2, ![1024, 64]⟩
abbrev S1024x32 : Shape := ⟨2, ![1024, 32]⟩
abbrev S1024x512 : Shape := ⟨2, ![1024, 512]⟩
abbrev S1024x1040 : Shape := ⟨2, ![1024, 1040]⟩
abbrev S1024x112 : Shape := ⟨2, ![1024, 112]⟩
abbrev S1024x1152 : Shape := ⟨2, ![1024, 1152]⟩
abbrev S1024x1032 : Shape := ⟨2, ![1024, 1032]⟩
abbrev S1024x120 : Shape := ⟨2, ![1024, 120]⟩
abbrev S16384x512 : Shape := ⟨2, ![16384, 512]⟩
abbrev S16384x1152 : Shape := ⟨2, ![16384, 1152]⟩
abbrev S512x1024 : Shape := ⟨2, ![512, 1024]⟩
abbrev S512x512 : Shape := ⟨2, ![512, 512]⟩
abbrev S512x1152 : Shape := ⟨2, ![512, 1152]⟩

abbrev nBuf : Space → Nat
  | .hbm => 23
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024x2488, .f32⟩
  | .hbm, ⟨2, _⟩ => ⟨S1024x384, .f32⟩
  | .hbm, ⟨3, _⟩ => ⟨S_, .f32⟩
  | .hbm, ⟨4, _⟩ => ⟨S1024x64, .f32⟩
  | .hbm, ⟨5, _⟩ => ⟨S1024x32, .f32⟩
  | .hbm, ⟨6, _⟩ => ⟨S_, .f32⟩
  | .hbm, ⟨7, _⟩ => ⟨S1024x32, .f32⟩
  | .hbm, ⟨8, _⟩ => ⟨S1024x512, .f32⟩
  | .hbm, ⟨9, _⟩ => ⟨S1024x512, .bf16⟩
  | .hbm, ⟨10, _⟩ => ⟨S1024x1040, .f32⟩
  | .hbm, ⟨11, _⟩ => ⟨S_, .f32⟩
  | .hbm, ⟨12, _⟩ => ⟨S1024x112, .f32⟩
  | .hbm, ⟨13, _⟩ => ⟨S1024x1152, .f32⟩
  | .hbm, ⟨14, _⟩ => ⟨S1024x1152, .bf16⟩
  | .hbm, ⟨15, _⟩ => ⟨S1024x1032, .f32⟩
  | .hbm, ⟨16, _⟩ => ⟨S_, .f32⟩
  | .hbm, ⟨17, _⟩ => ⟨S1024x120, .f32⟩
  | .hbm, ⟨18, _⟩ => ⟨S1024x1152, .f32⟩
  | .hbm, ⟨19, _⟩ => ⟨S1024x1152, .bf16⟩
  | .hbm, ⟨20, _⟩ => ⟨S16384x512, .f32⟩
  | .hbm, ⟨21, _⟩ => ⟨S16384x1152, .f32⟩
  | .hbm, ⟨22, _⟩ => ⟨S16384x1152, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x1152, .bf16⟩
  | .local _ .vmem, ⟨4, _⟩ => ⟨S1024x1152, .bf16⟩
  | .local _ .vmem, ⟨5, _⟩ => ⟨S512x512, .f32⟩
  | .local _ .vmem, ⟨6, _⟩ => ⟨S512x512, .f32⟩
  | .local _ .vmem, ⟨7, _⟩ => ⟨S512x1152, .f32⟩
  | .local _ .vmem, ⟨8, _⟩ => ⟨S512x1152, .f32⟩
  | .local _ .vmem, ⟨9, _⟩ => ⟨S512x1152, .f32⟩
  | .local _ .vmem, ⟨10, _⟩ => ⟨S512x1152, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InProjRefIdeal.lean ====
abbrev S16384x1024 : Shape := ⟨2, ![16384, 1024]⟩
abbrev S1024x2488 : Shape := ⟨2, ![1024, 2488]⟩
abbrev S16384x2488 : Shape := ⟨2, ![16384, 2488]⟩
abbrev S16384x384 : Shape := ⟨2, ![16384, 384]⟩
abbrev S_ : Shape := ⟨0, ![]⟩
abbrev S16384x64 : Shape := ⟨2, ![16384, 64]⟩
abbrev S16384x32 : Shape := ⟨2, ![16384, 32]⟩
abbrev S16384x512 : Shape := ⟨2, ![16384, 512]⟩
abbrev S16384x1040 : Shape := ⟨2, ![16384, 1040]⟩
abbrev S16384x112 : Shape := ⟨2, ![16384, 112]⟩
abbrev S16384x1152 : Shape := ⟨2, ![16384, 1152]⟩
abbrev S16384x1032 : Shape := ⟨2, ![16384, 1032]⟩
abbrev S16384x120 : Shape := ⟨2, ![16384, 120]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2488, .f32⟩
  | .hbm, ⟨2, _⟩ => ⟨S16384x2488, .f32⟩
  | .hbm, ⟨3, _⟩ => ⟨S16384x384, .f32⟩
  | .hbm, ⟨4, _⟩ => ⟨S_, .f32⟩
  | .hbm, ⟨5, _⟩ => ⟨S16384x64, .f32⟩
  | .hbm, ⟨6, _⟩ => ⟨S16384x32, .f32⟩
  | .hbm, ⟨7, _⟩ => ⟨S_, .f32⟩
  | .hbm, ⟨8, _⟩ => ⟨S16384x32, .f32⟩
  | .hbm, ⟨9, _⟩ => ⟨S16384x512, .f32⟩
  | .hbm, ⟨10, _⟩ => ⟨S16384x1040, .f32⟩
  | .hbm, ⟨11, _⟩ => ⟨S_, .f32⟩
  | .hbm, ⟨12, _⟩ => ⟨S16384x112, .f32⟩
  | .hbm, ⟨13, _⟩ => ⟨S16384x1152, .f32⟩
  | .hbm, ⟨14, _⟩ => ⟨S16384x1032, .f32⟩
  | .hbm, ⟨15, _⟩ => ⟨S_, .f32⟩
  | .hbm, ⟨16, _⟩ => ⟨S16384x120, .f32⟩
  | .hbm, ⟨17, _⟩ => ⟨S16384x1152, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== OutProj.lean ====
abbrev S16384x1024 : Shape := ⟨2, ![16384, 1024]⟩
abbrev S16384x512 : Shape := ⟨2, ![16384, 512]⟩
abbrev S16384x256 : Shape := ⟨2, ![16384, 256]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S4x1024x4 : Shape := ⟨3, ![4, 1024, 4]⟩
abbrev S4x4 : Shape := ⟨2, ![4, 4]⟩
abbrev S1024x4x4 : Shape := ⟨3, ![1024, 4, 4]⟩
abbrev S1024x16 : Shape := ⟨2, ![1024, 16]⟩
abbrev S1024x20 : Shape := ⟨2, ![1024, 20]⟩
abbrev S_ : Shape := ⟨0, ![]⟩
abbrev S1024x128 : Shape := ⟨2, ![1024, 128]⟩
abbrev S16 : Shape := ⟨1, ![16]⟩
abbrev S20 : Shape := ⟨1, ![20]⟩
abbrev S1x20 : Shape := ⟨2, ![1, 20]⟩
abbrev S1x128 : Shape := ⟨2, ![1, 128]⟩
abbrev S1x1024 : Shape := ⟨2, ![1, 1024]⟩
abbrev S16384x128 : Shape := ⟨2, ![16384, 128]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S256x1024 : Shape := ⟨2, ![256, 1024]⟩
abbrev S512 : Shape := ⟨1, ![512]⟩
abbrev S512x1 : Shape := ⟨2, ![512, 1]⟩

abbrev nBuf : Space → Nat
  | .hbm => 28
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x256, .bf16⟩
  | .hbm, ⟨3, _⟩ => ⟨S16384x256, .bf16⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x4, .f32⟩
  | .hbm, ⟨8, _⟩ => ⟨S4, .f32⟩
  | .hbm, ⟨9, _⟩ => ⟨S4x1024x4, .f32⟩
  | .hbm, ⟨10, _⟩ => ⟨S4x4, .f32⟩
  | .hbm, ⟨11, _⟩ => ⟨S1024x4x4, .f32⟩
  | .hbm, ⟨12, _⟩ => ⟨S1024x16, .f32⟩
  | .hbm, ⟨13, _⟩ => ⟨S1024x20, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S16, .f32⟩
  | .hbm, ⟨18, _⟩ => ⟨S20, .f32⟩
  | .hbm, ⟨19, _⟩ => ⟨S1x20, .f32⟩
  | .hbm, ⟨20, _⟩ => ⟨S_, .i32⟩
  | .hbm, ⟨21, _⟩ => ⟨S_, .f32⟩
  | .hbm, ⟨22, _⟩ => ⟨S1x128, .f32⟩
  | .hbm, ⟨23, _⟩ => ⟨S1024x1024, .bf16⟩
  | .hbm, ⟨24, _⟩ => ⟨S1x1024, .f32⟩
  | .hbm, ⟨25, _⟩ => ⟨S1x1024, .f32⟩
  | .hbm, ⟨26, _⟩ => ⟨S16384x1024, .f32⟩
  | .hbm, ⟨27, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x128, .f32⟩
  | .local _ .vmem, ⟨12, _⟩ => ⟨S1x128, .f32⟩
  | .local _ .vmem, ⟨13, _⟩ => ⟨S512x1024, .f32⟩
  | .local _ .vmem, ⟨14, _⟩ => ⟨S512x1024, .f32⟩
  | .local _ .vmem, ⟨15, _⟩ => ⟨S512x128, .f32⟩
  | .local _ .vmem, ⟨16, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_call1_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11_0 : Ref sig .tc := ⟨.hbm, 26, rfl⟩
abbrev main_v11_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutProjRefIdeal.lean ====
abbrev S16384x1024 : Shape := ⟨2, ![16384, 1024]⟩
abbrev S16384x512 : Shape := ⟨2, ![16384, 512]⟩
abbrev S16384x256 : Shape := ⟨2, ![16384, 256]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S4x1024x4 : Shape := ⟨3, ![4, 1024, 4]⟩
abbrev S4x4 : Shape := ⟨2, ![4, 4]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4 : Shape := ⟨2, ![16384, 4]⟩
abbrev S1x4 : Shape := ⟨2, ![1, 4]⟩
abbrev S16384x4x4 : Shape := ⟨3, ![16384, 4, 4]⟩
abbrev S1x4x4 : Shape := ⟨3, ![1, 4, 4]⟩
abbrev S16384x2 : Shape := ⟨2, ![16384, 2]⟩
abbrev S16384x2x1 : Shape := ⟨3, ![16384, 2, 1]⟩
abbrev S1x1x16 : Shape := ⟨3, ![1, 1, 16]⟩
abbrev S16384x2x16 : Shape := ⟨3, ![16384, 2, 16]⟩
abbrev S16384x16 : Shape := ⟨2, ![16384, 16]⟩
abbrev S16384x128 : Shape := ⟨2, ![16384, 128]⟩

abbrev nBuf : Space → Nat
  | .hbm => 123
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x256, .bf16⟩
  | .hbm, ⟨3, _⟩ => ⟨S16384x256, .bf16⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x4, .f32⟩
  | .hbm, ⟨8, _⟩ => ⟨S4, .f32⟩
  | .hbm, ⟨9, _⟩ => ⟨S4x1024x4, .f32⟩
  | .hbm, ⟨10, _⟩ => ⟨S4x4, .f32⟩
  | .hbm, ⟨11, _⟩ => ⟨S16384x512, .f32⟩
  | .hbm, ⟨12, _⟩ => ⟨S16384x256, .f32⟩
  | .hbm, ⟨13, _⟩ => ⟨S16384x256, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S16384x4, .f32⟩
  | .hbm, ⟨50, _⟩ => ⟨S1x4, .f32⟩
  | .hbm, ⟨51, _⟩ => ⟨S16384x4, .f32⟩
  | .hbm, ⟨52, _⟩ => ⟨S16384x4, .f32⟩
  | .hbm, ⟨53, _⟩ => ⟨S_, .f32⟩
  | .hbm, ⟨54, _⟩ => ⟨S16384, .f32⟩
  | .hbm, ⟨55, _⟩ => ⟨S_, .f32⟩
  | .hbm, ⟨56, _⟩ => ⟨S16384, .f32⟩
  | .hbm, ⟨57, _⟩ => ⟨S16384, .f32⟩
  | .hbm, ⟨58, _⟩ => ⟨S16384x1, .f32⟩
  | .hbm, ⟨59, _⟩ => ⟨S16384x4, .f32⟩
  | .hbm, ⟨60, _⟩ => ⟨S16384x4, .f32⟩
  | .hbm, ⟨61, _⟩ => ⟨S16384x4, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S16384x4, .f32⟩
  | .hbm, ⟨66, _⟩ => ⟨S16384x4, .f32⟩
  | .hbm, ⟨67, _⟩ => ⟨S16384x1, .f32⟩
  | .hbm, ⟨68, _⟩ => ⟨S16384x1, .i32⟩
  | .hbm, ⟨69, _⟩ => ⟨S16384x4x4, .f32⟩
  | .hbm, ⟨70, _⟩ => ⟨S1x4x4, .f32⟩
  | .hbm, ⟨71, _⟩ => ⟨S16384x4x4, .f32⟩
  | .hbm, ⟨72, _⟩ => ⟨S16384x4x4, .f32⟩
  | .hbm, ⟨73, _⟩ => ⟨S16384, .i32⟩
  | .hbm, ⟨74, _⟩ => ⟨S16384x1, .i32⟩
  | .hbm, ⟨75, _⟩ => ⟨S1x4, .i32⟩
  | .hbm, ⟨76, _⟩ => ⟨S16384x4, .i32⟩
  | .hbm, ⟨77, _⟩ => ⟨S16384x4, .i32⟩
  | .hbm, ⟨78, _⟩ => ⟨S16384x4, .i1⟩
  | .hbm, ⟨79, _⟩ => ⟨S16384x4, .f32⟩
  | .hbm, ⟨80, _⟩ => ⟨S16384x4, .f32⟩
  | .hbm, ⟨81, _⟩ => ⟨S_, .f32⟩
  | .hbm, ⟨82, _⟩ => ⟨S16384, .f32⟩
  | .hbm, ⟨83, _⟩ => ⟨S_, .f32⟩
  | .hbm, ⟨84, _⟩ => ⟨S16384, .f32⟩
  | .hbm, ⟨85, _⟩ => ⟨S16384, .f32⟩
  | .hbm, ⟨86, _⟩ => ⟨S16384x1, .f32⟩
  | .hbm, ⟨87, _⟩ => ⟨S16384x4, .f32⟩
  | .hbm, ⟨88, _⟩ => ⟨S16384x4, .f32⟩
  | .hbm, ⟨89, _⟩ => ⟨S16384x4, .f32⟩
  | .hbm, ⟨90, _⟩ => ⟨S_, .f32⟩
  | .hbm, ⟨91, _⟩ => ⟨S16384, .f32⟩
  | .hbm, ⟨92, _⟩ => ⟨S16384x1, .f32⟩
  | .hbm, ⟨93, _⟩ => ⟨S16384x4, .f32⟩
  | .hbm, ⟨94, _⟩ => ⟨S16384x4, .f32⟩
  | .hbm, ⟨95, _⟩ => ⟨S16384x2, .f32⟩
  | .hbm, ⟨96, _⟩ => ⟨S16384x2, .i32⟩
  | .hbm, ⟨97, _⟩ => ⟨S_, .f32⟩
  | .hbm, ⟨98, _⟩ => ⟨S16384, .f32⟩
  | .hbm, ⟨99, _⟩ => ⟨S16384x1, .f32⟩
  | .hbm, ⟨100, _⟩ => ⟨S16384x2, .f32⟩
  | .hbm, ⟨101, _⟩ => ⟨S16384x2, .f32⟩
  | .hbm, ⟨102, _⟩ => ⟨S_, .i32⟩
  | .hbm, ⟨103, _⟩ => ⟨S16384x1, .i32⟩
  | .hbm, ⟨104, _⟩ => ⟨S16384x1, .i32⟩
  | .hbm, ⟨105, _⟩ => ⟨S16384x2, .i32⟩
  | .hbm, ⟨106, _⟩ => ⟨S16384x2, .i32⟩
  | .hbm, ⟨107, _⟩ => ⟨S16384x2x1, .i32⟩
  | .hbm, ⟨108, _⟩ => ⟨S1x1x16, .i32⟩
  | .hbm, ⟨109, _⟩ => ⟨S16384x2x16, .i32⟩
  | .hbm, ⟨110, _⟩ => ⟨S16384x2x16, .i32⟩
  | .hbm, ⟨111, _⟩ => ⟨S16384x2x16, .i1⟩
  | .hbm, ⟨112, _⟩ => ⟨S16384x2x16, .f32⟩
  | .hbm, ⟨113, _⟩ => ⟨S16384x2, .f32⟩
  | .hbm, ⟨114, _⟩ => ⟨S16384x2, .f32⟩
  | .hbm, ⟨115, _⟩ => ⟨S16384x2x1, .f32⟩
  | .hbm, ⟨116, _⟩ => ⟨S16384x2x16, .f32⟩
  | .hbm, ⟨117, _⟩ => ⟨S16384x2x16, .f32⟩
  | .hbm, ⟨118, _⟩ => ⟨S_, .f32⟩
  | .hbm, ⟨119, _⟩ => ⟨S16384x16, .f32⟩
  | .hbm, ⟨120, _⟩ => ⟨S_, .i32⟩
  | .hbm, ⟨121, _⟩ => ⟨S_, .f32⟩
  | .hbm, ⟨122, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_values : Ref sig .tc := ⟨.hbm, 67, rfl⟩
abbrev main_indices : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_v52 : Ref sig .tc := ⟨.hbm, 79, rfl⟩
abbrev main_v53 : Ref sig .tc := ⟨.hbm, 80, rfl⟩
abbrev main_cst_8 : Ref sig .tc := ⟨.hbm, 81, rfl⟩
abbrev main_v54 : Ref sig .tc := ⟨.hbm, 82, rfl⟩
abbrev main_cst_9 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_10 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_values_11 : Ref sig .tc := ⟨.hbm, 95, rfl⟩
abbrev main_indices_12 : Ref sig .tc := ⟨.hbm, 96, rfl⟩
abbrev main_cst_13 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_call1_v0 : Ref sig .tc := ⟨.hbm, 107, rfl⟩
abbrev main_call1_v1 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_14 : Ref sig .tc := ⟨.hbm, 118, rfl⟩
abbrev main_v79 : Ref sig .tc := ⟨.hbm, 119, rfl⟩
abbrev main_c_15 : Ref sig .tc := ⟨.hbm, 120, rfl⟩
abbrev main_call2_v0 : Ref sig .tc := ⟨.hbm, 121, rfl⟩
abbrev main_v80 : Ref sig .tc := ⟨.hbm, 122, rfl⟩

abbrev nD : Nat := 1
abbrev τ : Topo := Topo.v7x

variable {F : FTy → Type} [FloatOps F]
-- ==== Prep.lean ====
abbrev S16384x512 : Shape := ⟨2, ![16384, 512]⟩
abbrev S8x2048 : Shape := ⟨2, ![8, 2048]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S16384x32 : Shape := ⟨2, ![16384, 32]⟩
abbrev S16384x128 : Shape := ⟨2, ![16384, 128]⟩
abbrev S256x8x96 : Shape := ⟨3, ![256, 8, 96]⟩
abbrev S256x8x128 : Shape := ⟨3, ![256, 8, 128]⟩
abbrev S256x1024 : Shape := ⟨2, ![256, 1024]⟩
abbrev S128x8x128 : Shape := ⟨3, ![128, 8, 128]⟩
abbrev S128x8x64 : Shape := ⟨3, ![128, 8, 64]⟩
abbrev S128x512 : Shape := ⟨2, ![128, 512]⟩
abbrev S1x256 : Shape := ⟨2, ![1, 256]⟩
abbrev S1x128 : Shape := ⟨2, ![1, 128]⟩
abbrev S16384x1024 : Shape := ⟨2, ![16384, 1024]⟩
abbrev S512x512 : Shape := ⟨2, ![512, 512]⟩
abbrev S512x128 : Shape := ⟨2, ![512, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 58
  | .vmem => 17
  | .smem => 0
  | _ => 0

abbrev bufTy : (tb : Table) → Fin (tcTables nBuf tb) → BufTy
  | .hbm, ⟨0, _⟩ => ⟨S16384x512, .f32⟩
  | .hbm, ⟨1, _⟩ => ⟨S8x2048, .i32⟩
  | .hbm, ⟨2, _⟩ => ⟨S256, .f32⟩
  | .hbm, ⟨3, _⟩ => ⟨S128, .f32⟩
  | .hbm, ⟨4, _⟩ => ⟨S256x768, .f32⟩
  | .hbm, ⟨5, _⟩ => ⟨S128x1024, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S8x2048, .f32⟩
  | .hbm, ⟨21, _⟩ => ⟨S16384x1, .f32⟩
  | .hbm, ⟨22, _⟩ => ⟨S1x16, .f32⟩
  | .hbm, ⟨23, _⟩ => ⟨S16384x16, .f32⟩
  | .hbm, ⟨24, _⟩ => ⟨S16384x16, .f32⟩
  | .hbm, ⟨25, _⟩ => ⟨S16384x16, .f32⟩
  | .hbm, ⟨26, _⟩ => ⟨S16384x16, .f32⟩
  | .hbm, ⟨27, _⟩ => ⟨S16384x16, .f32⟩
  | .hbm, ⟨28, _⟩ => ⟨S_, .f32⟩
  | .hbm, ⟨29, _⟩ => ⟨S16384x64, .f32⟩
  | .hbm, ⟨30, _⟩ => ⟨S_, .f32⟩
  | .hbm, ⟨31, _⟩ => ⟨S16384x64, .f32⟩
  | .hbm, ⟨32, _⟩ => ⟨S_, .f32⟩
  | .hbm, ⟨33, _⟩ => ⟨S16384x32, .f32⟩
  | .hbm, ⟨34, _⟩ => ⟨S16384x128, .f32⟩
  | .hbm, ⟨35, _⟩ => ⟨S16384x16, .f32⟩
  | .hbm, ⟨36, _⟩ => ⟨S16384x128, .f32⟩
  | .hbm, ⟨37, _⟩ => ⟨S256x8x96, .f32⟩
  | .hbm, ⟨38, _⟩ => ⟨S_, .i32⟩
  | .hbm, ⟨39, _⟩ => ⟨S_, .f32⟩
  | .hbm, ⟨40, _⟩ => ⟨S256x8x128, .f32⟩
  | .hbm, ⟨41, _⟩ => ⟨S256x1024, .f32⟩
  | .hbm, ⟨42, _⟩ => ⟨S256x1024, .bf16⟩
  | .hbm, ⟨43, _⟩ => ⟨S128x8x128, .f32⟩
  | .hbm, ⟨44, _⟩ => ⟨S128x8x64, .f32⟩
  | .hbm, ⟨45, _⟩ => ⟨S_, .i32⟩
  | .hbm, ⟨46, _⟩ => ⟨S_, .f32⟩
  | .hbm, ⟨47, _⟩ => ⟨S128x8x128, .f32⟩
  | .hbm, ⟨48, _⟩ => ⟨S128x1024, .f32⟩
  | .hbm, ⟨49, _⟩ => ⟨S128x1024, .bf16⟩
  | .hbm, ⟨50, _⟩ => ⟨S128x8x64, .f32⟩
  | .hbm, ⟨51, _⟩ => ⟨S128x512, .f32⟩
  | .hbm, ⟨52, _⟩ => ⟨S128x512, .bf16⟩
  | .hbm, ⟨53, _⟩ => ⟨S1x256, .f32⟩
  | .hbm, ⟨54, _⟩ => ⟨S1x128, .f32⟩
  | .hbm, ⟨55, _⟩ => ⟨S16384x1024, .bf16⟩
  | .hbm, ⟨56, _⟩ => ⟨S16384x1024, .bf16⟩
  | .hbm, ⟨57, _⟩ => ⟨S16384x512, .bf16⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x256, .f32⟩
  | .local _ .vmem, ⟨7, _⟩ => ⟨S1x128, .f32⟩
  | .local _ .vmem, ⟨8, _⟩ => ⟨S256x1024, .bf16⟩
  | .local _ .vmem, ⟨9, _⟩ => ⟨S128x1024, .bf16⟩
  | .local _ .vmem, ⟨10, _⟩ => ⟨S128x512, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x512, .bf16⟩
  | .local _ .vmem, ⟨16, _⟩ => ⟨S512x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_call0_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_call1_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38_0 : Ref sig .tc := ⟨.hbm, 55, rfl⟩
abbrev main_v38_1 : Ref sig .tc := ⟨.hbm, 56, rfl⟩
abbrev main_v38_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== PrepRefIdeal.lean ====
abbrev S16384x512 : Shape := ⟨2, ![16384, 512]⟩
abbrev S8x2048 : Shape := ⟨2, ![8, 2048]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S16384x256 : Shape := ⟨2, ![16384, 256]⟩
abbrev S16384 : Shape := ⟨1, ![16384]⟩
abbrev S1x256 : Shape := ⟨2, ![1, 256]⟩
abbrev S16384x768 : Shape := ⟨2, ![16384, 768]⟩
abbrev S16384x8x96 : Shape := ⟨3, ![16384, 8, 96]⟩
abbrev S16384x128 : Shape := ⟨2, ![16384, 128]⟩
abbrev S1x128 : Shape := ⟨2, ![1, 128]⟩
abbrev S16384x1024 : Shape := ⟨2, ![16384, 1024]⟩
abbrev S16384x8x128 : Shape := ⟨3, ![16384, 8, 128]⟩
abbrev S16384x8x64 : Shape := ⟨3, ![16384, 8, 64]⟩
abbrev S16384x8x32 : Shape := ⟨3, ![16384, 8, 32]⟩
abbrev S16384x1x16 : Shape := ⟨3, ![16384, 1, 16]⟩
abbrev S16384x8x16 : Shape := ⟨3, ![16384, 8, 16]⟩
abbrev S16384x32 : Shape := ⟨2, ![16384, 32]⟩
abbrev S16384x1x32 : Shape := ⟨3, ![16384, 1, 32]⟩

abbrev nBuf : Space → Nat
  | .hbm => 112
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S8x2048, .i32⟩
  | .hbm, ⟨2, _⟩ => ⟨S256, .f32⟩
  | .hbm, ⟨3, _⟩ => ⟨S128, .f32⟩
  | .hbm, ⟨4, _⟩ => ⟨S256x768, .f32⟩
  | .hbm, ⟨5, _⟩ => ⟨S128x1024, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S8x2048, .f32⟩
  | .hbm, ⟨21, _⟩ => ⟨S16384x1, .f32⟩
  | .hbm, ⟨22, _⟩ => ⟨S1x16, .f32⟩
  | .hbm, ⟨23, _⟩ => ⟨S16384x16, .f32⟩
  | .hbm, ⟨24, _⟩ => ⟨S16384x16, .f32⟩
  | .hbm, ⟨25, _⟩ => ⟨S16384x16, .f32⟩
  | .hbm, ⟨26, _⟩ => ⟨S16384x16, .f32⟩
  | .hbm, ⟨27, _⟩ => ⟨S16384x16, .f32⟩
  | .hbm, ⟨28, _⟩ => ⟨S16384x256, .f32⟩
  | .hbm, ⟨29, _⟩ => ⟨S16384x256, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x256, .f32⟩
  | .hbm, ⟨41, _⟩ => ⟨S16384x256, .f32⟩
  | .hbm, ⟨42, _⟩ => ⟨S1x256, .f32⟩
  | .hbm, ⟨43, _⟩ => ⟨S16384x256, .f32⟩
  | .hbm, ⟨44, _⟩ => ⟨S16384x256, .f32⟩
  | .hbm, ⟨45, _⟩ => ⟨S16384x768, .f32⟩
  | .hbm, ⟨46, _⟩ => ⟨S16384x8x96, .f32⟩
  | .hbm, ⟨47, _⟩ => ⟨S16384x128, .f32⟩
  | .hbm, ⟨48, _⟩ => ⟨S16384x128, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1, .f32⟩
  | .hbm, ⟨59, _⟩ => ⟨S16384x128, .f32⟩
  | .hbm, ⟨60, _⟩ => ⟨S16384x128, .f32⟩
  | .hbm, ⟨61, _⟩ => ⟨S1x128, .f32⟩
  | .hbm, ⟨62, _⟩ => ⟨S16384x128, .f32⟩
  | .hbm, ⟨63, _⟩ => ⟨S16384x128, .f32⟩
  | .hbm, ⟨64, _⟩ => ⟨S16384x1024, .f32⟩
  | .hbm, ⟨65, _⟩ => ⟨S16384x8x128, .f32⟩
  | .hbm, ⟨66, _⟩ => ⟨S16384x8x64, .f32⟩
  | .hbm, ⟨67, _⟩ => ⟨S16384x8x32, .f32⟩
  | .hbm, ⟨68, _⟩ => ⟨S16384x1x16, .f32⟩
  | .hbm, ⟨69, _⟩ => ⟨S16384x1x16, .f32⟩
  | .hbm, ⟨70, _⟩ => ⟨S16384x8x16, .f32⟩
  | .hbm, ⟨71, _⟩ => ⟨S16384x8x16, .f32⟩
  | .hbm, ⟨72, _⟩ => ⟨S16384x8x16, .f32⟩
  | .hbm, ⟨73, _⟩ => ⟨S16384x8x16, .f32⟩
  | .hbm, ⟨74, _⟩ => ⟨S16384x8x16, .f32⟩
  | .hbm, ⟨75, _⟩ => ⟨S16384x8x16, .f32⟩
  | .hbm, ⟨76, _⟩ => ⟨S16384x8x16, .f32⟩
  | .hbm, ⟨77, _⟩ => ⟨S16384x8x16, .f32⟩
  | .hbm, ⟨78, _⟩ => ⟨S16384x8x16, .f32⟩
  | .hbm, ⟨79, _⟩ => ⟨S16384x8x16, .f32⟩
  | .hbm, ⟨80, _⟩ => ⟨S16384x8x16, .f32⟩
  | .hbm, ⟨81, _⟩ => ⟨S16384x8x16, .f32⟩
  | .hbm, ⟨82, _⟩ => ⟨S16384x8x32, .f32⟩
  | .hbm, ⟨83, _⟩ => ⟨S16384x8x96, .f32⟩
  | .hbm, ⟨84, _⟩ => ⟨S_, .f32⟩
  | .hbm, ⟨85, _⟩ => ⟨S16384x8x96, .f32⟩
  | .hbm, ⟨86, _⟩ => ⟨S16384x8x96, .f32⟩
  | .hbm, ⟨87, _⟩ => ⟨S16384x32, .f32⟩
  | .hbm, ⟨88, _⟩ => ⟨S16384x16, .f32⟩
  | .hbm, ⟨89, _⟩ => ⟨S16384x16, .f32⟩
  | .hbm, ⟨90, _⟩ => ⟨S16384x16, .f32⟩
  | .hbm, ⟨91, _⟩ => ⟨S16384x16, .f32⟩
  | .hbm, ⟨92, _⟩ => ⟨S16384x16, .f32⟩
  | .hbm, ⟨93, _⟩ => ⟨S16384x16, .f32⟩
  | .hbm, ⟨94, _⟩ => ⟨S16384x16, .f32⟩
  | .hbm, ⟨95, _⟩ => ⟨S16384x16, .f32⟩
  | .hbm, ⟨96, _⟩ => ⟨S16384x32, .f32⟩
  | .hbm, ⟨97, _⟩ => ⟨S16384x8x64, .f32⟩
  | .hbm, ⟨98, _⟩ => ⟨S16384x1x32, .f32⟩
  | .hbm, ⟨99, _⟩ => ⟨S16384x8x32, .f32⟩
  | .hbm, ⟨100, _⟩ => ⟨S16384x8x96, .f32⟩
  | .hbm, ⟨101, _⟩ => ⟨S_, .f32⟩
  | .hbm, ⟨102, _⟩ => ⟨S16384x8x32, .f32⟩
  | .hbm, ⟨103, _⟩ => ⟨S16384x8x128, .f32⟩
  | .hbm, ⟨104, _⟩ => ⟨S16384x1024, .f32⟩
  | .hbm, ⟨105, _⟩ => ⟨S16384x1024, .bf16⟩
  | .hbm, ⟨106, _⟩ => ⟨S16384x8x128, .f32⟩
  | .hbm, ⟨107, _⟩ => ⟨S16384x1024, .f32⟩
  | .hbm, ⟨108, _⟩ => ⟨S16384x1024, .bf16⟩
  | .hbm, ⟨109, _⟩ => ⟨S16384x8x64, .f32⟩
  | .hbm, ⟨110, _⟩ => ⟨S16384x512, .f32⟩
  | .hbm, ⟨111, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_9 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_10 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩

abbrev nD : Nat := 1
abbrev τ : Topo := Topo.v7x

variable {F : FTy → Type} [FloatOps F]
-- ==== Proof.AttnPure.lean ====
module

public import proofs.«01_k».proof.Proof.Gen.AttnRefIdeal.Read
public import Idealize.ShloMosaic.Lib.Pointwise

@[expose] public section

set_option maxRecDepth 16384

noncomputable section

open Idealize.ShloMosaic Idealize.ShloMosaic.TcCoe Idealize.SL.Sem

namespace Cert.AttnRefIdeal.RefValue

open Cert.AttnRefIdeal Cert.AttnRefIdeal.Gen Cert.AttnRefIdeal.Read

variable (Q K : FVec Ideal S8x2048x1024 .bf16) (V : FVec Ideal S8x2048x512 .bf16)

/-- The lane of head `h`'s coordinate `d` in the queries and keys. -/
abbrev hl (h : Fin 8) (d : Fin 128) : Fin 1024 := ⟨h.val * 128 + d.val, by omega⟩

/-- A query row's score against a key row, at one head. -/
def score (b h : Fin 8) (r x : Fin 2048) : EReal := ∑ d : Fin 128, Q (ix3 b r (hl h d)) * K (ix3 b x (hl h d))

/-- The greatest score of a row. -/
def top (b h : Fin 8) (r : Fin 2048) : EReal := Finset.univ.fold max (⊥ : EReal) fun x => score Q K b h r x

theorem ninf : Ideal.ofBits .f32 0xFF800000#32 = (⊥ : EReal) := by
  simp [Ideal.ofBits, Ideal.ieee]

theorem sc (b h : Fin 8) (r x : Fin 2048) : val_main_v6 (F := Ideal) Q K (ix4 b h r x) = score Q K b h r x := by
  rw [val_main_v6_apply, score]
  refine Finset.sum_congr rfl fun d _ => ?_
  rw [val_main_v1_apply, val_main_v0_apply, val_main_v3_apply, val_main_v2_apply]
  refine Ideal.mul_congr (congrArg Q ?_) (congrArg K ?_)
  · idx_ext
  · idx_ext

theorem mx (b h : Fin 8) (r : Fin 2048) : val_main_v9 (F := Ideal) Q K (ix3 b h r) = top Q K b h r := by
  rw [val_main_v9_apply, val_main_v8_apply, val_main_cst_0_apply]
  unfold val_main_v7
  have e : ∀ x, val_main_v6 (F := Ideal) Q K (ix4 b h r x) = score Q K b h r x := sc Q K b h r
  revert e
  generalize val_main_v6 (F := Ideal) Q K = y
  intro e
  pointwise [val_main_cst]
  simp only [e, ninf, top]
  exact max_eq_right bot_le

theorem ex (b h : Fin 8) (r x : Fin 2048) :
    val_main_v13 (F := Ideal) Q K (ix4 b h r x) = Ideal.exp (score Q K b h r x - top Q K b h r) := by
  rw [val_main_v13_apply, val_main_v12_apply, val_main_v11_apply, val_main_v10_apply, sc]
  rw [show idx_main_v10 (idx_main_v11 (ix4 b h r x)) = ix3 b h r by idx_ext, mx]
  rfl

theorem sm (b h : Fin 8) (r x : Fin 2048) :
    val_main_v16 (F := Ideal) Q K (ix4 b h r x) = ∑ x, Ideal.exp (score Q K b h r x - top Q K b h r) := by
  rw [val_main_v16_apply, val_main_v15_apply, val_main_v14_apply]
  have z : val_main_cst_1 (F := Ideal) (Shape.Idx.first h_S_) = (0 : EReal) := by
    rw [val_main_cst_1_apply]; pointwise
  refine (Ideal.add_congr z rfl).trans ((zero_add _).trans (Finset.sum_congr rfl fun x _ => ?_))
  rw [← ex]
  exact congrArg _ (by idx_ext)

/-- The head of an output lane, and its coordinate there. -/
abbrev hd (l : Fin 512) : Fin 8 := ⟨l.val / 64, by omega⟩

theorem ref_apply (b : Fin 8) (r : Fin 2048) (l : Fin 512) :
    val_main_v21 (F := Ideal) Q K V (ix3 b r l)
      = ∑ x : Fin 2048, V (ix3 b x l) * Ideal.div (Ideal.exp (score Q K b (hd l) r x - top Q K b (hd l) r))
          (∑ x, Ideal.exp (score Q K b (hd l) r x - top Q K b (hd l) r)) := by
  rw [val_main_v21_apply, val_main_v20_apply, val_main_v19_apply]
  refine (val_main_v18_apply _ _ _ _).trans (Finset.sum_congr rfl fun x _ => ?_)
  rw [val_main_v5_apply, val_main_v4_apply, val_main_v17_apply]
  refine Ideal.mul_congr (congrArg V ?_) ?_
  · idx_ext
  · rw [← ex Q K b (hd l) r x, ← sm Q K b (hd l) r x]
    have i : ridx_main_v18 (idx_main_v19 (idx_main_v20 (ix3 b r l))) x = ix4 b (hd l) r x := by idx_ext
    rw [i]; rfl

end Cert.AttnRefIdeal.RefValue

end
-- ==== Proof.AttnKer.lean ====
module

public import proofs.«01_k».proof.Proof.Gen.AttnIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.AttnIdeal.KerValue

open Cert.AttnIdeal Cert.AttnIdeal.Gen

/-- A sum of extended reals times a nonnegative real. -/
theorem sum_mul_coe {n : ℕ} (f : Fin n → EReal) (c : ℝ) (hc : 0 ≤ c) : (∑ x, f x) * (c : EReal) = ∑ x, f x * (c : EReal) := by
  have h : ∀ s : Finset (Fin n), (∑ x ∈ s, f x) * (c : EReal) = ∑ x ∈ s, f x * (c : EReal) := by
    intro s
    induction s using Finset.induction_on with
    | empty => simp
    | insert a s ha ih =>
      rw [Finset.sum_insert ha, Finset.sum_insert ha, ← ih]
      exact EReal.right_distrib_of_nonneg_of_ne_top (by exact_mod_cast hc) (EReal.coe_ne_top c) _ _
  exact h _

/-- The greatest of finitely many reals, at least one of them, is one of them. -/
theorem fold_max_mem {n : ℕ} (s : Fin (n + 1) → EReal) (hb : ∀ x, s x ≠ ⊥) :
    ∃ x, Finset.univ.fold max (⊥ : EReal) s = s x := by
  have h : Finset.univ.fold max (⊥ : EReal) s = Finset.univ.sup s := rfl
  obtain ⟨x, -, hx⟩ := Finset.exists_mem_eq_sup Finset.univ Finset.univ_nonempty s
  exact ⟨x, h.trans hx⟩

/-- The softmax's division may be done after the sum over the values: at real scores. -/
theorem softmax_div {n : ℕ} (s : Fin (n + 1) → ℝ) (v : Fin (n + 1) → EReal) :
    Ideal.div (∑ x, Ideal.exp ((s x : EReal) - Finset.univ.fold max (⊥ : EReal) fun y => (s y : EReal)) * v x)
        (∑ x, Ideal.exp ((s x : EReal) - Finset.univ.fold max (⊥ : EReal) fun y => (s y : EReal)))
      = ∑ x, v x * Ideal.div (Ideal.exp ((s x : EReal) - Finset.univ.fold max (⊥ : EReal) fun y => (s y : EReal)))
          (∑ x, Ideal.exp ((s x : EReal) - Finset.univ.fold max (⊥ : EReal) fun y => (s y : EReal))) := by
  obtain ⟨x₀, h₀⟩ := fold_max_mem (fun y => (s y : EReal)) fun x => EReal.coe_ne_bot _
  rw [h₀]
  have e : ∀ x, Ideal.exp ((s x : EReal) - (s x₀ : EReal)) = ((Real.exp (s x - s x₀) : ℝ) : EReal) := fun x => by
    rw [← EReal.coe_sub, Ideal.exp_coe]
  simp only [e]
  have hs : (∑ x, ((Real.exp (s x - s x₀) : ℝ) : EReal)) = ((∑ x, Real.exp (s x - s x₀) : ℝ) : EReal) :=
    (map_sum (⟨⟨Real.toEReal, EReal.coe_zero⟩, EReal.coe_add⟩ : ℝ →+ EReal) _ _).symm
  have hp : 0 < ∑ x, Real.exp (s x - s x₀) := Finset.sum_pos (fun x _ => Real.exp_pos _) Finset.univ_nonempty
  rw [hs, Ideal.div_coe hp.ne', sum_mul_coe _ _ (by positivity)]
  refine Finset.sum_congr rfl fun x _ => ?_
  rw [Ideal.div_coe hp.ne']
  ac_rfl

/-- A query row's score against a key row, in a head's blocks. -/
def bscore (q : FVec Ideal S1x256x128 .bf16) (k : FVec Ideal S1x2048x128 .bf16) (r : Fin 256) (x : Fin 2048) : EReal :=
  ∑ d : Fin 128, q (ix3 0 r d) * k (ix3 0 x d)

/-- The greatest score of a row. -/
def btop (q : FVec Ideal S1x256x128 .bf16) (k : FVec Ideal S1x2048x128 .bf16) (r : Fin 256) : EReal :=
  Finset.univ.fold max (⊥ : EReal) fun x => bscore q k r x

theorem ninf : Ideal.ofBits .f32 0xFF800000#32 = (⊥ : EReal) := by
  simp [Ideal.ofBits, Ideal.ieee]

theorem pay3_apply (v : FVec Ideal S1x2048x128 .bf16) (q : FVec Ideal S1x256x128 .bf16) (k : FVec Ideal S1x2048x128 .bf16) (r : Fin 256) (l : Fin 128) :
    k0_pay3 (F := Ideal) v q k (ix2 r l)
      = Ideal.div (∑ x : Fin 2048, Ideal.exp (bscore q k r x - btop q k r) * v (ix3 0 x l)) (∑ x : Fin 2048, Ideal.exp (bscore q k r x - btop q k r)) := by
  pointwise [k0_pay3, k0_pay2, bscore, btop, ninf]

theorem pay4_apply (v : FVec Ideal S1x2048x128 .bf16) (q : FVec Ideal S1x256x128 .bf16) (k : FVec Ideal S1x2048x128 .bf16) (r : Fin 256) (l : Fin 128) :
    k0_pay4 (F := Ideal) v q k (ix2 r l)
      = Ideal.div (∑ x : Fin 2048, Ideal.exp (bscore q k r x - btop q k r) * v (ix3 0 x l)) (∑ x : Fin 2048, Ideal.exp (bscore q k r x - btop q k r)) :=
  pay3_apply v q k r l

theorem pay1_apply (a b : FVec Ideal S256x128 .f32) (r : Fin 256) (l : Fin 128) :
    k0_pay1 (F := Ideal) a b (ix3 0 r l) = if l.val < 64 then a (ix2 r l) else b (ix2 r l) := by
  pointwise [k0_pay1]
  have h : ∀ l : Fin 128, IntOp.cmpi .slt (BitVec.ofNat 32 l.val) 64#32 = BitVec.ofBool (decide (l.val < 64)) := by decide +kernel
  rw [h]
  by_cases hl : l.val < 64 <;> simp [hl, Scalar.select]

/-- A query row's score against a key row at the first or second head of a block of two. -/
def hscore (q : Vec Ideal S1x256x256 .bf16) (k : Vec Ideal S1x2048x256 .bf16) (o : Fin 2) (r : Fin 256) (x : Fin 2048) : EReal :=
  ∑ d : Fin 128, (show FVec Ideal S1x256x256 .bf16 from q) (ix3 0 r ⟨o.val * 128 + d.val, by omega⟩)
    * (show FVec Ideal S1x2048x256 .bf16 from k) (ix3 0 x ⟨o.val * 128 + d.val, by omega⟩)

theorem bscore_fst (q : Vec Ideal S1x256x256 .bf16) (k : Vec Ideal S1x2048x256 .bf16) (r : Fin 256) (x : Fin 2048) :
    bscore (View.ld q r0_1) (View.ld k r0_2) r x = hscore q k 0 r x := by
  unfold bscore hscore
  refine Finset.sum_congr rfl fun d _ => Ideal.mul_congr ?_ ?_
  · pointwise
  · pointwise

theorem bscore_snd (q : Vec Ideal S1x256x256 .bf16) (k : Vec Ideal S1x2048x256 .bf16) (r : Fin 256) (x : Fin 2048) :
    bscore (View.ld q r0_3) (View.ld k r0_4) r x = hscore q k 1 r x := by
  unfold bscore hscore
  refine Finset.sum_congr rfl fun d _ => Ideal.mul_congr ?_ ?_
  · pointwise
  · pointwise

/-- A head's attention over a block, the division after the sum. -/
def hatt (q : Vec Ideal S1x256x256 .bf16) (k : Vec Ideal S1x2048x256 .bf16) (v : Vec Ideal S1x2048x128 .bf16) (o : Fin 2) (r : Fin 256) (l : Fin 128) : EReal :=
  Ideal.div (∑ x : Fin 2048, Ideal.exp (hscore q k o r x - Finset.univ.fold max (⊥ : EReal) fun x => hscore q k o r x) * (show FVec Ideal S1x2048x128 .bf16 from v) (ix3 0 x l))
    (∑ x : Fin 2048, Ideal.exp (hscore q k o r x - Finset.univ.fold max (⊥ : EReal) fun x => hscore q k o r x))

theorem out_apply (q : Vec Ideal S1x256x256 .bf16) (k : Vec Ideal S1x2048x256 .bf16) (v : Vec Ideal S1x2048x128 .bf16) (r : Fin 256) (l : Fin 128) :
    out0_3 q k v (ix3 0 r l) = hatt q k v (if l.val < 64 then 0 else 1) r l := by
  frame_out
  rw [pay1_apply, pay3_apply, pay4_apply]
  simp only [btop, bscore_fst, bscore_snd]
  split <;> rfl

end Cert.AttnIdeal.KerValue

end
-- ==== Proof.AttnValue.lean ====
module

public import proofs.«01_k».proof.Proof.AttnPure
public import proofs.«01_k».proof.Proof.AttnKer

@[expose] public section

set_option maxRecDepth 16384

noncomputable section

open Idealize.ShloMosaic Idealize.ShloMosaic.TcCoe Idealize.SL.Sem
open Idealize.ShloMosaic.Pipeline (Dat)

namespace Cert.AttnIdeal.KerValue

open Cert.AttnIdeal Cert.AttnIdeal.Gen
open Cert.AttnRefIdeal.RefValue (score top hd ref_apply)

/-- The reference's result, a function of the three arrays. -/
abbrev REF (Q K : FVec Ideal S8x2048x1024 .bf16) (V : FVec Ideal S8x2048x512 .bf16) : FVec Ideal S8x2048x512 .bf16 :=
  Cert.AttnRefIdeal.Read.val_main_v21 (F := Ideal) Q K V

variable (m : (ℓ : Loc nD τ sig) → Buf (Elt Ideal) ℓ)

theorem idx : ∀ t : Fin cfg0.N, win0_0.index t = ![t.val / 32, t.val % 8, t.val / 8 % 4] ∧ win0_1.index t = ![t.val / 32, 0, t.val / 8 % 4]
    ∧ win0_2.index t = ![t.val / 32, 0, t.val / 8 % 4] ∧ win0_3.index t = ![t.val / 32, t.val % 8, t.val / 8 % 4] ∧ t.val < 256 :=
  (by decide +kernel : ∀ t : Fin grid0.N, _)

/-- A row's head of a pair, over blocks that hold it, is the reference's: at real queries and keys. -/
theorem hatt_eq (Q K : FVec Ideal S8x2048x1024 .bf16) (V : FVec Ideal S8x2048x512 .bf16)
    (hQ : ∀ i, ∃ a : ℝ, Q i = (a : EReal)) (hK : ∀ i, ∃ a : ℝ, K i = (a : EReal))
    (q : Vec Ideal S1x256x256 .bf16) (k : Vec Ideal S1x2048x256 .bf16) (v : Vec Ideal S1x2048x128 .bf16)
    (b : Fin 8) (r : Fin 256) (R : Fin 2048) (l : Fin 128) (L : Fin 512)
    (hs : ∀ x, hscore q k (if l.val < 64 then 0 else 1) r x = score Q K b (hd L) R x)
    (hv : ∀ x, (show FVec Ideal S1x2048x128 .bf16 from v) (ix3 0 x l) = V (ix3 b x L)) :
    hatt q k v (if l.val < 64 then 0 else 1) r l = REF Q K V (ix3 b R L) := by
  refine Eq.trans ?_ (ref_apply Q K V b R L).symm
  unfold hatt
  simp only [hs, hv, top]
  have h : ∀ x, ∃ a : ℝ, score Q K b (hd L) R x = (a : EReal) := fun x => by
    choose fQ hfQ using hQ
    choose fK hfK using hK
    refine ⟨∑ d : Fin 128, fQ (ix3 b R (Cert.AttnRefIdeal.RefValue.hl (hd L) d)) * fK (ix3 b x (Cert.AttnRefIdeal.RefValue.hl (hd L) d)), ?_⟩
    rw [score]
    simp only [hfQ, hfK, ← EReal.coe_mul]
    exact (map_sum (⟨⟨Real.toEReal, EReal.coe_zero⟩, EReal.coe_add⟩ : ℝ →+ EReal) _ _).symm
  choose f hf using h
  simp only [hf]
  exact softmax_div (n := 2047) f _

/-- What point `t` stores at index `y` of its block is the reference there. -/
theorem point (hQ : ∀ c : Dev nD, ∀ i, ∃ a : ℝ, (show FVec Ideal S8x2048x1024 .bf16 from m ((c : Thread nD τ).loc main_arg0)) i = (a : EReal))
    (hK : ∀ c : Dev nD, ∀ i, ∃ a : ℝ, (show FVec Ideal S8x2048x1024 .bf16 from m ((c : Thread nD τ).loc main_arg1)) i = (a : EReal))
    (c : Dev nD) (t : Fin cfg0.N) (y : S1x256x128.Idx) :
    out0_3 (iblk m c 0 t) (iblk m c 1 t) (iblk m c 2 t) y
      = REF (m ((c : Thread nD τ).loc main_arg0)) (m ((c : Thread nD τ).loc main_arg1)) (m ((c : Thread nD τ).loc main_arg2)) (((cfg0.win 3).blk t).view.emb y) := by
  obtain ⟨-, -, -, -, ht⟩ := idx t
  idx_vars y
  obtain rfl : y0 = 0 := by omega
  rw [out_apply]
  have e : ((cfg0.win 3).blk t).view.emb (ix3 0 y1 y2) = (ix3 ⟨t.val / 32, by omega⟩ ⟨t.val % 8 * 256 + y1.val, by omega⟩ ⟨t.val / 8 % 4 * 128 + y2.val, by omega⟩ : S8x2048x512.Idx) := by
    blk_ext [idx t]
  rw [e]
  refine hatt_eq _ _ _ (hQ c) (hK c) _ _ _ _ _ _ _ _ (fun x => ?_) (fun x => ?_)
  · unfold hscore score
    refine Finset.sum_congr rfl fun d _ => Ideal.mul_congr ?_ ?_
    · by_cases h : y2.val < 64
      · simp only [h, if_true]
        blk_ext [iblk, V, idx t]
      · simp only [h, if_false]
        blk_ext [iblk, V, idx t]
    · by_cases h : y2.val < 64
      · simp only [h, if_true]
        blk_ext [iblk, V, idx t]
      · simp only [h, if_false]
        blk_ext [iblk, V, idx t]
  · blk_ext [iblk, V, idx t]

theorem final (hQ : ∀ c : Dev nD, ∀ i, ∃ a : ℝ, (show FVec Ideal S8x2048x1024 .bf16 from m ((c : Thread nD τ).loc main_arg0)) i = (a : EReal))
    (hK : ∀ c : Dev nD, ∀ i, ∃ a : ℝ, (show FVec Ideal S8x2048x1024 .bf16 from m ((c : Thread nD τ).loc main_arg1)) i = (a : EReal))
    (c : Dev nD) : (dats m 0 c).arrAt 3 (cfgs 0).N
      = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m hQ hK c t y

end Cert.AttnIdeal.KerValue

end
-- ==== Proof.Norm.lean ====
module

public import Idealize.ShloMosaic.PureOps.Ideal.Laws

@[expose] public section

noncomputable section

open Idealize.ShloMosaic

namespace Cert.Norm

/-- A row's mean. -/
def mean (u : Fin 1024 → EReal) : EReal := Ideal.div (∑ k, u k) (Ideal.ofBits .f32 0x44800000#32)

/-- The layer norm of a row, at one lane: gain `g`, offset `b`. -/
def lnorm (u : Fin 1024 → EReal) (g b : EReal) (l : Fin 1024) : EReal :=
  (u l - mean u) * Ideal.rsqrt (Ideal.div (∑ k, (u k - mean u) * (u k - mean u)) (Ideal.ofBits .f32 0x44800000#32)
    + Ideal.ofBits .f32 0x3727C5AC#32) * g + b

/-- `x` times the logistic function of `x`. -/
def silu (x : EReal) : EReal := x * Ideal.div 1 (1 + Ideal.exp (-x))

end Cert.Norm

end
-- ==== Proof.MoePure.lean ====
module

public import proofs.«01_k».proof.Proof.Norm
public import proofs.«01_k».proof.Proof.Gen.MoeRefIdeal.Read
public import Idealize.ShloMosaic.Lib.Pipeline.ValueKit

@[expose] public section

set_option maxRecDepth 16384

noncomputable section

open Idealize.ShloMosaic Idealize.ShloMosaic.TcCoe Idealize.SL.Sem

namespace Cert.MoeRefIdeal.RefValue

open Cert.MoeRefIdeal Cert.MoeRefIdeal.Gen Cert.MoeRefIdeal.Read Cert.Norm

variable (x : FVec Ideal S16384x1024 .f32) (cmb : FVec Ideal S16384x128 .f32) (wg wu : FVec Ideal S16x1024x256 .f32)
  (wd : FVec Ideal S16x256x1024 .f32) (g b : FVec Ideal S1024 .f32)

/-- An expert's weighted hidden unit `f` of row `r`. -/
def hid (r : Fin 16384) (e : Fin 16) (f : Fin 256) : EReal :=
  silu (∑ d : Fin 1024, x (ix2 r d) * wg (ix3 e d f)) * (∑ d : Fin 1024, x (ix2 r d) * wu (ix3 e d f)) * cmb (ix2 r ⟨4 + e.val, by omega⟩)

/-- The row before its norm. -/
def row (r : Fin 16384) (l : Fin 1024) : EReal :=
  Ideal.ofBits .f32 0x3FD744FD#32 * x (ix2 r l) + ∑ e : Fin 16, ∑ f : Fin 256, hid x cmb wg wu r e f * wd (ix3 e f l)

theorem hid_apply (r : Fin 16384) (e : Fin 16) (f : Fin 256) :
    val_main_v7 (F := Ideal) x cmb wg wu (ix3 r e f) = hid x cmb wg wu r e f := by
  unfold hid silu
  pointwise [val_main_v7, val_main_v6, val_main_v5, val_main_v4, val_main_v3, val_main_v2, val_main_v1, val_main_v0, val_main_call0_v0,
    val_main_call0_v1, val_main_call0_v2, val_main_call0_v3, val_main_call0_v4, val_main_call0_v5, val_main_call0_cst, val_main_call0_cst_0]

theorem row_apply (r : Fin 16384) (l : Fin 1024) :
    val_main_v11 (F := Ideal) x cmb wg wu wd (ix2 r l) = row x cmb wg wu wd r l := by
  have e := hid_apply x cmb wg wu r
  unfold val_main_v11 val_main_v10 row
  revert e
  generalize val_main_v7 (F := Ideal) x cmb wg wu = y
  intro e
  simp only [← e]
  pointwise [val_main_v9, val_main_v8, val_main_cst]

theorem ref_apply (r : Fin 16384) (l : Fin 1024) :
    val_main_v35 (F := Ideal) x cmb wg wu wd g b (ix2 r l) = lnorm (row x cmb wg wu wd r) (g (ix1 l)) (b (ix1 l)) l := by
  have e := row_apply x cmb wg wu wd r
  unfold lnorm mean
  simp only [← e]
  unfold val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12
  clear e
  generalize val_main_v11 (F := Ideal) x cmb wg wu wd = y
  pointwise [val_main_cst_0, val_main_cst_1, val_main_cst_2, val_main_cst_3, val_main_cst_4]

end Cert.MoeRefIdeal.RefValue

end
-- ==== Proof.MoeKer.lean ====
module

public import proofs.«01_k».proof.Proof.Norm
public import proofs.«01_k».proof.Proof.Gen.MoeIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MoeIdeal.KerValue

open Cert.MoeIdeal Cert.MoeIdeal.Gen Cert.Norm

/-- The lane comparison selects lane `4 + e`. -/
theorem lane_eq : ∀ (e : Fin 16) (l : Fin 128),
    IntOp.cmpi .eq (BitVec.ofNat 32 l.val) (4#32 + BitVec.ofNat 32 e.val) = BitVec.ofBool (decide (l = ⟨4 + e.val, by omega⟩)) := by
  decide +kernel

theorem pay3_apply (v : FVec Ideal S1024x1024 .f32) (j : S1024x1024.Idx) : k0_pay3 (F := Ideal) v j = v j := by
  pointwise [k0_pay3]

theorem pay4_apply (j : S1024x1024.Idx) : k0_pay4 (F := Ideal) j = 0 := by
  pointwise [k0_pay4]

/-- The hidden unit `f` of row `r`, weighted by the row's lane `4 + e`. -/
def bhid (x : FVec Ideal S1024x1024 .bf16) (cmb : FVec Ideal S1024x128 .f32) (wg wu : FVec Ideal S1x1024x256 .bf16) (e : Fin 16)
    (r : Fin 1024) (f : Fin 256) : EReal :=
  silu (∑ d : Fin 1024, x (ix2 r d) * wg (ix3 0 d f)) * (∑ d : Fin 1024, x (ix2 r d) * wu (ix3 0 d f)) * cmb (ix2 r ⟨4 + e.val, by omega⟩)

theorem pay5_apply (i : grid0.Coords) (e : Fin 16) (he : (i 1).val = e.val) (x : FVec Ideal S1024x1024 .bf16) (cmb : FVec Ideal S1024x128 .f32)
    (wg wu : FVec Ideal S1x1024x256 .bf16) (r : Fin 1024) (f : Fin 256) :
    k0_pay5 (F := Ideal) i x cmb wg wu (ix2 r f) = bhid x cmb wg wu e r f := by
  unfold bhid silu
  pointwise [k0_pay5]
  have hs : ∀ l : Fin 128, Scalar.select (IntOp.cmpi .eq (BitVec.ofNat 32 l.val) (Scalar.addi 4#32 (BitVec.ofNat 32 (i 1).val))) (cmb (ix2 r l)) 0
      = if l = ⟨4 + e.val, by omega⟩ then cmb (ix2 r l) else 0 := fun l => by
    rw [he, show Scalar.addi 4#32 (BitVec.ofNat 32 e.val) = 4#32 + BitVec.ofNat 32 e.val from rfl, lane_eq e l]
    by_cases hl : l = ⟨4 + e.val, by omega⟩
    · rw [if_pos hl, decide_eq_true hl]; simp [Scalar.select]
    · rw [if_neg hl, decide_eq_false hl]; simp [Scalar.select]
  simp only [hs, zero_sub, Finset.sum_ite_eq', Finset.mem_univ, if_true]

theorem pay1_apply (acc : FVec Ideal S1024x1024 .f32) (h : FVec Ideal S1024x256 .bf16) (wd : FVec Ideal S1x256x1024 .bf16) (r l : Fin 1024) :
    k0_pay1 (F := Ideal) acc h wd (ix2 r l) = acc (ix2 r l) + ∑ f : Fin 256, h (ix2 r f) * wd (ix3 0 f l) := by
  pointwise [k0_pay1]

theorem pay2_apply (x acc : FVec Ideal S1024x1024 .f32) (g b : FVec Ideal S1x1024 .f32) (r l : Fin 1024) :
    k0_pay2 (F := Ideal) x acc g b (ix2 r l)
      = lnorm (fun k => Ideal.ofBits .f32 0x3FD744FD#32 * x (ix2 r k) + acc (ix2 r k)) (g (ix2 0 l)) (b (ix2 0 l)) l := by
  unfold lnorm mean
  pointwise [k0_pay2]

end Cert.MoeIdeal.KerValue

end
-- ==== Proof.MoeValue.lean ====
module

public import proofs.«01_k».proof.Proof.MoePure
public import proofs.«01_k».proof.Proof.MoeKer
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MoeIdeal.KerValue

open Cert.MoeIdeal Cert.MoeIdeal.Gen Cert.Norm

variable (m : (ℓ : Loc nD τ sig) → Buf (Elt Ideal) ℓ)

theorem idx : ∀ t : Fin cfg0.N, win0_0.index t = ![t.val / 16, 0] ∧ win0_1.index t = ![t.val / 16, 0]
    ∧ win0_2.index t = ![t.val % 16, 0, 0] ∧ win0_3.index t = ![t.val % 16, 0, 0] ∧ win0_4.index t = ![t.val % 16, 0, 0]
    ∧ win0_5.index t = ![0, 0] ∧ win0_6.index t = ![0, 0] ∧ win0_7.index t = ![t.val / 16, 0] ∧ t.val < 256
    ∧ ((grid0.coords t) 1).val = t.val % 16 :=
  (by decide +kernel : ∀ t : Fin grid0.N, _)

/-- A vector laid out as one row. -/
theorem lift_apply (v : S1024.Idx → EReal) (h : S1024.ShapeCasts S1x1024) (j : S1x1024.Idx) :
    shapeCast S1x1024 v h j = v (ix1 (j 1)) := by
  idx_vars j
  pointwise

/-- The rows' block, the same at every point of a run. -/
theorem rows_eq (c : Dev nD) (t s : Fin cfg0.N) (h : t.val / 16 = s.val / 16) (j : S1024x1024.Idx) :
    (show FVec Ideal S1024x1024 .f32 from iblk m c 0 t) j = (show FVec Ideal S1024x1024 .f32 from iblk m c 0 s) j := by
  idx_vars j
  blk_ext [iblk, V, idx t, idx s]

/-- What expert `t % 16` adds to the sum, over the run's rows. -/
def part (c : Dev nD) (t : Fin cfg0.N) (r l : Fin 1024) : EReal :=
  ∑ f : Fin 256, bhid (iblk m c 0 t) (iblk m c 1 t) (iblk m c 2 t) (iblk m c 3 t) ⟨t.val % 16, by omega⟩ r f
    * (show FVec Ideal S1x256x1024 .bf16 from iblk m c 4 t) (ix3 0 f l)

theorem copy_first (c : Dev nD) (t : Fin cfg0.N) (h0 : t.val % 16 = 0) (j : S1024x1024.Idx) :
    (outsAt0 m c t.val t.isLt).2.1 j = (show FVec Ideal S1024x1024 .f32 from iblk m c 0 t) j := by
  rw [outsAt0_A m c t h0 (by omega)]
  frame_out
  exact pay3_apply _ j

theorem copy_next (c : Dev nD) (t : Fin cfg0.N) (h0 : ¬t.val % 16 = 0) :
    (outsAt0 m c t.val t.isLt).2.1 = (outsAt0 m c (t.val - 1) (Nat.lt_of_le_of_lt (Nat.sub_le _ _) t.isLt)).2.1 := by
  by_cases h1 : t.val % 16 = 15
  · rw [outsAt0_C m c t h0 h1]; rfl
  · rw [outsAt0_B m c t h0 h1]; rfl

/-- The carried copy of the rows, after any point, is the rows' block. -/
theorem copy_eq (c : Dev nD) (n : ℕ) (hn : n < cfg0.N) (j : S1024x1024.Idx) :
    (outsAt0 m c n hn).2.1 j = (show FVec Ideal S1024x1024 .f32 from iblk m c 0 ⟨n, hn⟩) j := by
  induction n with
  | zero => exact copy_first m c ⟨0, hn⟩ (Nat.zero_mod _) j
  | succ n ih =>
    by_cases h0 : (n + 1) % 16 = 0
    · exact copy_first m c ⟨n + 1, hn⟩ h0 j
    · rw [copy_next m c ⟨n + 1, hn⟩ h0]
      refine (ih (Nat.lt_of_succ_lt hn)).trans (rows_eq m c _ _ ?_ j)
      show n / 16 = (n + 1) / 16
      omega

theorem acc_first (c : Dev nD) (t : Fin cfg0.N) (h0 : t.val % 16 = 0) (r l : Fin 1024) :
    (outsAt0 m c t.val t.isLt).2.2 (ix2 r l) = 0 + part m c t r l := by
  rw [outsAt0_A m c t h0 (by omega)]
  frame_out
  rw [pay1_apply, pay4_apply]
  refine Ideal.add_congr rfl (Finset.sum_congr rfl fun f _ => Ideal.mul_congr ?_ rfl)
  rw [pay5_apply _ ⟨t.val % 16, by omega⟩ (idx t).2.2.2.2.2.2.2.2.2]
  exact congrArg (fun x => bhid x _ _ _ _ r f) (funext fun j => pay3_apply _ j)

/-- The sum after a later point of a run, over what the point before left. -/
theorem acc_step (c : Dev nD) (t : Fin cfg0.N) (h0 : ¬t.val % 16 = 0) (r l : Fin 1024) (x : FVec Ideal S1024x1024 .bf16)
    (hx : x = (outsAt0 m c (t.val - 1) (Nat.lt_of_le_of_lt (Nat.sub_le _ _) t.isLt)).2.1) (acc : FVec Ideal S1024x1024 .f32) :
    k0_pay1 (F := Ideal) acc (k0_pay5 (grid0.coords t) x (iblk m c 1 t) (iblk m c 2 t) (iblk m c 3 t)) (iblk m c 4 t) (ix2 r l)
      = acc (ix2 r l) + part m c t r l := by
  rw [pay1_apply]
  refine Ideal.add_congr rfl (Finset.sum_congr rfl fun f _ => Ideal.mul_congr ?_ rfl)
  rw [pay5_apply _ ⟨t.val % 16, by omega⟩ (idx t).2.2.2.2.2.2.2.2.2]
  refine congrArg (fun x => bhid x _ _ _ _ r f) (funext fun j => ?_)
  rw [hx, copy_eq]
  refine rows_eq m c _ _ ?_ j
  show (t.val - 1) / 16 = t.val / 16
  omega

theorem acc_next (c : Dev nD) (t : Fin cfg0.N) (h0 : ¬t.val % 16 = 0) (r l : Fin 1024) :
    (outsAt0 m c t.val t.isLt).2.2 (ix2 r l)
      = (outsAt0 m c (t.val - 1) (Nat.lt_of_le_of_lt (Nat.sub_le _ _) t.isLt)).2.2 (ix2 r l) + part m c t r l := by
  by_cases h1 : t.val % 16 = 15
  · rw [outsAt0_C m c t h0 h1]
    frame_out
    rw [read_unread_whole, read_unread_whole]
    exact acc_step m c t h0 r l _ rfl _
  · rw [outsAt0_B m c t h0 h1]
    frame_out
    rw [read_unread_whole, read_unread_whole]
    exact acc_step m c t h0 r l _ rfl _

/-- The sum after a run's last point: every expert's part. -/
theorem acc_last (c : Dev nD) (t : Fin cfg0.N) (h1 : t.val % 16 = 15) (r l : Fin 1024) :
    (outsAt0 m c t.val t.isLt).2.2 (ix2 r l)
      = ∑ s : Fin 16, part m c ⟨16 * (t.val / 16) + s.val, Pipeline.run_point_lt_of_flush t h1 s⟩ r l := by
  refine (Pipeline.eq_sum_fin_of_reset_step_apply_of_flush (fun n h (j : Fin 1024 × Fin 1024) => (outsAt0 m c n h).2.2 (ix2 j.1 j.2)) 16
    (fun _ => 0) (fun t j => part m c t j.1 j.2) (fun t h j => acc_first m c t h j.1 j.2) (fun t h j => acc_next m c t h j.1 j.2)
    t h1 (r, l)).trans (zero_add _)

/-- What a run's last point stores: the norm of the scaled row plus the sum. -/
theorem out_last (c : Dev nD) (t : Fin cfg0.N) (h1 : t.val % 16 = 15) (r l : Fin 1024) :
    (outsAt0 m c t.val t.isLt).1 (ix2 r l)
      = lnorm (fun k => Ideal.ofBits .f32 0x3FD744FD#32 * (show FVec Ideal S1024x1024 .f32 from iblk m c 0 t) (ix2 r k)
          + (outsAt0 m c t.val t.isLt).2.2 (ix2 r k))
        ((show FVec Ideal S1x1024 .f32 from iblk m c 5 t) (ix2 0 l)) ((show FVec Ideal S1x1024 .f32 from iblk m c 6 t) (ix2 0 l)) l := by
  rw [outsAt0_C m c t (by omega) h1]
  frame_out
  exact pay2_apply _ _ _ _ r l

/-- The reference's result, a function of the seven arrays. -/
abbrev REF (x : FVec Ideal S16384x1024 .f32) (cmb : FVec Ideal S16384x128 .f32) (wg wu : FVec Ideal S16x1024x256 .f32)
    (wd : FVec Ideal S16x256x1024 .f32) (g b : FVec Ideal S1024 .f32) : FVec Ideal S16384x1024 .f32 :=
  Cert.MoeRefIdeal.Read.val_main_v35 (F := Ideal) x cmb wg wu wd g b

open Cert.MoeRefIdeal.RefValue (hid row ref_apply)

/-- An expert's part of the sum, at the run's rows, is the reference's. -/
theorem part_eq (c : Dev nD) (t s : Fin cfg0.N) (e : Fin 16) (hs : s.val / 16 = t.val / 16) (he : s.val % 16 = e.val) (r l : Fin 1024) (R : Fin 16384)
    (hR : R.val = t.val / 16 * 1024 + r.val) :
    part m c s r l = ∑ f : Fin 256, hid (m ((c : Thread nD τ).loc main_arg0)) (m ((c : Thread nD τ).loc main_arg1)) (m ((c : Thread nD τ).loc main_arg2))
      (m ((c : Thread nD τ).loc main_arg3)) R e f * (show FVec Ideal S16x256x1024 .f32 from m ((c : Thread nD τ).loc main_arg4)) (ix3 e f l) := by
  unfold part bhid hid
  refine Finset.sum_congr rfl fun f _ => Ideal.mul_congr (Ideal.mul_congr (Ideal.mul_congr (congrArg silu (Finset.sum_congr rfl fun d _ =>
    Ideal.mul_congr ?_ ?_)) (Finset.sum_congr rfl fun d _ => Ideal.mul_congr ?_ ?_)) ?_) ?_
  all_goals simp only [iblk]
  all_goals entry_read
  all_goals blk_ext [idx s]

theorem point (c : Dev nD) (t : Fin cfg0.N) (h1 : t.val % 16 = 15) (y : S1024x1024.Idx) :
    (outsAt0 m c t.val t.isLt).1 y
      = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (((cfg0.win 7).blk t).view.emb y) := by
  have ht : t.val < 256 := (idx t).2.2.2.2.2.2.2.2.1
  idx_vars y
  have e : ((cfg0.win 7).blk t).view.emb (ix2 y0 y1) = (ix2 ⟨t.val / 16 * 1024 + y0.val, by omega⟩ y1 : S16384x1024.Idx) := by
    blk_ext [idx t]
  rw [e, out_last m c t h1]
  refine Eq.trans ?_ (ref_apply _ _ _ _ _ _ _ _ _).symm
  have lcongr : ∀ {u u' : Fin 1024 → EReal} {g g' b b' : EReal}, u = u' → g = g' → b = b' → lnorm u g b y1 = lnorm u' g' b' y1 := by
    rintro _ _ _ _ _ _ rfl rfl rfl; rfl
  refine lcongr (funext fun k => ?_) ?_ ?_
  · rw [acc_last m c t h1]
    refine Ideal.add_congr (Ideal.mul_congr rfl ?_) ?_
    · blk_ext [iblk, V, idx t]
    · refine Finset.sum_congr rfl fun s _ => part_eq m c t _ s ?_ ?_ y0 k _ rfl
      · show (16 * (t.val / 16) + s.val) / 16 = t.val / 16
        omega
      · show (16 * (t.val / 16) + s.val) % 16 = s.val
        omega
  · simp only [iblk]
    entry_read
    refine (lift_apply _ _ _).trans ?_
    blk_ext [idx t]
  · simp only [iblk]
    entry_read
    refine (lift_apply _ _ _).trans ?_
    blk_ext [idx t]

theorem final (c : Dev nD) : (dats m 0 c).arrAt 7 (cfgs 0).N
      = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (dats m 0 c).arrAt_eq_of_covers 7 _ (by decide +kernel) fun t hf y => ?_
  blk_simp
  rw [after0_7]
  exact point m c t ((flush0_7 t).mp hf) y

end Cert.MoeIdeal.KerValue

end
-- ==== Proof.InValue.lean ====
module

public import proofs.«01_k».proof.Proof.Gen.InProjIdeal.Value
public import proofs.«01_k».proof.Proof.Gen.InProjRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProjIdeal.KerValue

open Cert.InProjIdeal Cert.InProjIdeal.Gen

/-- The latent columns with their zero columns put in. -/
def wa (w : FVec Ideal S1024x2488 .f32) (k : Fin 1024) (l : Fin 512) : EReal :=
  if h : l.val < 384 then w (ix2 k ⟨l.val, by omega⟩) else if h : l.val - 384 < 64 then 0
  else if h : l.val - 384 - 64 < 32 then w (ix2 k ⟨384 + (l.val - 384 - 64), by omega⟩) else 0

/-- The columns of the first recurrence, then zero columns. -/
def wb (w : FVec Ideal S1024x2488 .f32) (k : Fin 1024) (l : Fin 1152) : EReal :=
  if h : l.val < 1040 then w (ix2 k ⟨416 + l.val, by omega⟩) else 0

/-- The columns of the second recurrence, then zero columns. -/
def wc (w : FVec Ideal S1024x2488 .f32) (k : Fin 1024) (l : Fin 1152) : EReal :=
  if h : l.val < 1032 then w (ix2 k ⟨1456 + l.val, by omega⟩) else 0

section reference

open Cert.InProjRefIdeal.Read

variable (x : FVec Ideal S16384x1024 .f32) (w : FVec Ideal S1024x2488 .f32) (r : Fin 16384)

theorem refA (l : Fin 512) : val_main_v5 (F := Ideal) x w (ix2 r l) = ∑ k : Fin 1024, x (ix2 r k) * wa w k l := by
  pointwise [val_main_v5, val_main_v4, val_main_v3, val_main_v2, val_main_v1, val_main_v0, val_main_cst, val_main_cst_0]
  unfold wa
  split <;> [rfl; (split <;> [simp; (split <;> [rfl; simp])])]

theorem refB (l : Fin 1152) : val_main_v8 (F := Ideal) x w (ix2 r l) = ∑ k : Fin 1024, x (ix2 r k) * wb w k l := by
  pointwise [val_main_v8, val_main_v7, val_main_v6, val_main_v0, val_main_cst_1]
  unfold wb
  split <;> [rfl; simp]

theorem refC (l : Fin 1152) : val_main_v11 (F := Ideal) x w (ix2 r l) = ∑ k : Fin 1024, x (ix2 r k) * wc w k l := by
  pointwise [val_main_v11, val_main_v10, val_main_v9, val_main_v0, val_main_cst_2]
  unfold wc
  split <;> [rfl; simp]

end reference

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0] ∧ t.val < 32 :=
  (by decide +kernel : ∀ t : Fin grid0.N, _)

/-- What the three weight operands hold when the call starts. -/
theorem entryA (c : Dev nD) : V m c main_v5
    = (truncf .bf16 (concatenate S1024x512 1 [⟨S1024x384, (extractStridedSlice S1024x384 ![0, 0] (m ((c : Thread nD τ).loc main_arg1)) slices_S1024x2488_S1024x384_0_0 : FVec Ideal S1024x384 .f32)⟩,
        ⟨S1024x64, (broadcastInDim S1024x64 ![] bcast_S_S1024x64 (constant S_ .f32 0x00000000#32) : FVec Ideal S1024x64 .f32)⟩,
        ⟨S1024x32, (extractStridedSlice S1024x32 ![0, 384] (m ((c : Thread nD τ).loc main_arg1)) slices_S1024x2488_S1024x32_0_384 : FVec Ideal S1024x32 .f32)⟩,
        ⟨S1024x32, (broadcastInDim S1024x32 ![] bcast_S_S1024x32 (constant S_ .f32 0x00000000#32) : FVec Ideal S1024x32 .f32)⟩]
        concatenates_S1024x384_S1024x64_S1024x32_S1024x32_S1024x512_d1 : FVec Ideal S1024x512 .f32) bitsLt_bf16_f32 : FVec Ideal S1024x512 .bf16) := by
  after_results <;> rfl

theorem entryB (c : Dev nD) : V m c main_v9
    = (truncf .bf16 (concatenate S1024x1152 1 [⟨S1024x1040, (extractStridedSlice S1024x1040 ![0, 416] (m ((c : Thread nD τ).loc main_arg1)) slices_S1024x2488_S1024x1040_0_416 : FVec Ideal S1024x1040 .f32)⟩,
        ⟨S1024x112, (broadcastInDim S1024x112 ![] bcast_S_S1024x112 (constant S_ .f32 0x00000000#32) : FVec Ideal S1024x112 .f32)⟩]
        concatenates_S1024x1040_S1024x112_S1024x1152_d1 : FVec Ideal S1024x1152 .f32) bitsLt_bf16_f32 : FVec Ideal S1024x1152 .bf16) := by
  after_results <;> rfl

theorem entryC (c : Dev nD) : V m c main_v13
    = (truncf .bf16 (concatenate S1024x1152 1 [⟨S1024x1032, (extractStridedSlice S1024x1032 ![0, 1456] (m ((c : Thread nD τ).loc main_arg1)) slices_S1024x2488_S1024x1032_0_1456 : FVec Ideal S1024x1032 .f32)⟩,
        ⟨S1024x120, (broadcastInDim S1024x120 ![] bcast_S_S1024x120 (constant S_ .f32 0x00000000#32) : FVec Ideal S1024x120 .f32)⟩]
        concatenates_S1024x1032_S1024x120_S1024x1152_d1 : FVec Ideal S1024x1152 .f32) bitsLt_bf16_f32 : FVec Ideal S1024x1152 .bf16) := by
  after_results <;> rfl

theorem blkA (c : Dev nD) (t : Fin cfg0.N) (k : Fin 1024) (l : Fin 512) :
    (show FVec Ideal S1024x512 .bf16 from iblk m c 1 t) (ix2 k l) = wa (m ((c : Thread nD τ).loc main_arg1)) k l := by
  have e : ((cfg0.win 1).blk t).view.emb (ix2 k l) = (ix2 k l : S1024x512.Idx) := by blk_ext [idx t]
  show V m c main_v5 (((cfg0.win 1).blk t).view.emb (ix2 k l)) = _
  rw [e, entryA]
  pointwise [wa]

theorem blkB (c : Dev nD) (t : Fin cfg0.N) (k : Fin 1024) (l : Fin 1152) :
    (show FVec Ideal S1024x1152 .bf16 from iblk m c 2 t) (ix2 k l) = wb (m ((c : Thread nD τ).loc main_arg1)) k l := by
  have e : ((cfg0.win 2).blk t).view.emb (ix2 k l) = (ix2 k l : S1024x1152.Idx) := by blk_ext [idx t]
  show V m c main_v9 (((cfg0.win 2).blk t).view.emb (ix2 k l)) = _
  rw [e, entryB]
  pointwise [wb]

theorem blkC (c : Dev nD) (t : Fin cfg0.N) (k : Fin 1024) (l : Fin 1152) :
    (show FVec Ideal S1024x1152 .bf16 from iblk m c 3 t) (ix2 k l) = wc (m ((c : Thread nD τ).loc main_arg1)) k l := by
  have e : ((cfg0.win 3).blk t).view.emb (ix2 k l) = (ix2 k l : S1024x1152.Idx) := by blk_ext [idx t]
  show V m c main_v13 (((cfg0.win 3).blk t).view.emb (ix2 k l)) = _
  rw [e, entryC]
  pointwise [wc]

theorem pay2_apply (x : FVec Ideal S512x1024 .f32) (w : FVec Ideal S1024x512 .bf16) (r : Fin 512) (l : Fin 512) :
    k0_pay2 (F := Ideal) x w (ix2 r l) = ∑ k : Fin 1024, x (ix2 r k) * w (ix2 k l) := by
  pointwise [k0_pay2, k0_pay1]

theorem pay3_apply (x : FVec Ideal S512x1024 .f32) (w : FVec Ideal S1024x1152 .bf16) (r : Fin 512) (l : Fin 1152) :
    k0_pay3 (F := Ideal) x w (ix2 r l) = ∑ k : Fin 1024, x (ix2 r k) * w (ix2 k l) := by
  pointwise [k0_pay3, k0_pay1]

theorem pay4_apply (x : FVec Ideal S512x1024 .f32) (w : FVec Ideal S1024x1152 .bf16) (r : Fin 512) (l : Fin 1152) :
    k0_pay4 (F := Ideal) x w (ix2 r l) = ∑ k : Fin 1024, x (ix2 r k) * w (ix2 k l) := by
  pointwise [k0_pay4, k0_pay1]

theorem pointA (c : Dev nD) (t : Fin cfg0.N) (y : S512x512.Idx) :
    out0_4 (iblk m c 0 t) (iblk m c 1 t) (iblk m c 2 t) (iblk m c 3 t) y
      = Cert.InProjRefIdeal.Read.val_main_v5 (F := Ideal) (m ((c : Thread nD τ).loc main_arg0)) (m ((c : Thread nD τ).loc main_arg1))
        (((cfg0.win 4).blk t).view.emb y) := by
  have ht : t.val < 32 := (idx t).2.2.2.2.2.2.2
  idx_vars y
  have e : ((cfg0.win 4).blk t).view.emb (ix2 y0 y1) = (ix2 ⟨t.val * 512 + y0.val, by omega⟩ y1 : S16384x512.Idx) := by
    blk_ext [idx t]
  rw [e, refA]
  frame_out
  refine (pay2_apply _ _ y0 y1).trans (Finset.sum_congr rfl fun k _ => Ideal.mul_congr ?_ (blkA m c t k y1))
  blk_ext [iblk, V, idx t]

theorem finalA (c : Dev nD) : (dats m 0 c).arrAt 4 (cfgs 0).N
      = Cert.InProjRefIdeal.Read.val_main_v5 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  exact pointA m c t y

theorem pointB (c : Dev nD) (t : Fin cfg0.N) (y : S512x1152.Idx) :
    out0_5 (iblk m c 0 t) (iblk m c 1 t) (iblk m c 2 t) (iblk m c 3 t) y
      = Cert.InProjRefIdeal.Read.val_main_v8 (F := Ideal) (m ((c : Thread nD τ).loc main_arg0)) (m ((c : Thread nD τ).loc main_arg1))
        (((cfg0.win 5).blk t).view.emb y) := by
  have ht : t.val < 32 := (idx t).2.2.2.2.2.2.2
  idx_vars y
  have e : ((cfg0.win 5).blk t).view.emb (ix2 y0 y1) = (ix2 ⟨t.val * 512 + y0.val, by omega⟩ y1 : S16384x1152.Idx) := by
    blk_ext [idx t]
  rw [e, refB]
  frame_out
  refine (pay3_apply _ _ y0 y1).trans (Finset.sum_congr rfl fun k _ => Ideal.mul_congr ?_ (blkB m c t k y1))
  blk_ext [iblk, V, idx t]

theorem finalB (c : Dev nD) : (dats m 0 c).arrAt 5 (cfgs 0).N
      = Cert.InProjRefIdeal.Read.val_main_v8 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  exact pointB m c t y

theorem pointC (c : Dev nD) (t : Fin cfg0.N) (y : S512x1152.Idx) :
    out0_6 (iblk m c 0 t) (iblk m c 1 t) (iblk m c 2 t) (iblk m c 3 t) y
      = Cert.InProjRefIdeal.Read.val_main_v11 (F := Ideal) (m ((c : Thread nD τ).loc main_arg0)) (m ((c : Thread nD τ).loc main_arg1))
        (((cfg0.win 6).blk t).view.emb y) := by
  have ht : t.val < 32 := (idx t).2.2.2.2.2.2.2
  idx_vars y
  have e : ((cfg0.win 6).blk t).view.emb (ix2 y0 y1) = (ix2 ⟨t.val * 512 + y0.val, by omega⟩ y1 : S16384x1152.Idx) := by
    blk_ext [idx t]
  rw [e, refC]
  frame_out
  refine (pay4_apply _ _ y0 y1).trans (Finset.sum_congr rfl fun k _ => Ideal.mul_congr ?_ (blkC m c t k y1))
  blk_ext [iblk, V, idx t]

theorem finalC (c : Dev nD) : (dats m 0 c).arrAt 6 (cfgs 0).N
      = Cert.InProjRefIdeal.Read.val_main_v11 (F := Ideal) (m ((c : Thread nD τ).loc main_arg0)) (m ((c : Thread nD τ).loc main_arg1)) := by
  refine (dats m 0 c).arrAt_eq_of_covers 6 _ (by decide +kernel) fun t hf y => ?_
  blk_simp
  rw [after0_6]
  exact pointC m c t y

end Cert.InProjIdeal.KerValue

end
-- ==== Proof.Route.lean ====
module

public import Idealize.ShloMosaic.PureOps.Ideal.Laws
public import Idealize.ShloMosaic.Lib.SortFacts
public import Mathlib.Analysis.SpecialFunctions.Exp

@[expose] public section

noncomputable section

open Idealize.ShloMosaic

namespace Cert.Route

/-- `i` is the first place of the greatest entry. -/
def IsFirst {n : ℕ} (x : Fin n → EReal) (i : Fin n) : Prop := ∀ j, x j ≤ x i ∧ (j < i → x j < x i)

/-- `k` is the first place of the greatest entry among those other than `i`. -/
def IsSecond {n : ℕ} (x : Fin n → EReal) (i k : Fin n) : Prop := k ≠ i ∧ ∀ j, j ≠ i → x j ≤ x k ∧ (j < k → x j < x k)

theorem IsFirst.unique {n : ℕ} {x : Fin n → EReal} {i j : Fin n} (hi : IsFirst x i) (hj : IsFirst x j) : i = j := by
  rcases lt_trichotomy i j with h | h | h
  · exact absurd ((hj i).2 h) (not_lt.mpr (hi j).1)
  · exact h
  · exact absurd ((hi j).2 h) (not_lt.mpr (hj i).1)

theorem IsSecond.unique {n : ℕ} {x : Fin n → EReal} {i k k' : Fin n} (h : IsSecond x i k) (h' : IsSecond x i k') : k = k' := by
  rcases lt_trichotomy k k' with c | c | c
  · exact absurd ((h'.2 k h.1).2 c) (not_lt.mpr (h.2 k' h'.1).1)
  · exact c
  · exact absurd ((h.2 k' h'.1).2 c) (not_lt.mpr (h'.2 k h.1).1)

/-! ## A stable descending sort -/

/-- Sorted before: greater, or equal and at a lower place. -/
def Above {n : ℕ} (x : Fin n → EReal) (b c : Fin n) : Prop := x c < x b ∨ x c = x b ∧ b < c

theorem Above.trans {n : ℕ} {x : Fin n → EReal} {a b c : Fin n} (h : Above x a b) (h' : Above x b c) : Above x a c := by
  rcases h with h | ⟨h, l⟩ <;> rcases h' with h' | ⟨h', l'⟩
  · exact .inl (h'.trans h)
  · exact .inl (h' ▸ h)
  · exact .inl (h ▸ h')
  · exact .inr ⟨h'.trans h, l.trans l'⟩

/-- The order a descending sort puts places in. -/
abbrev gt {n : ℕ} (x : Fin n → EReal) (k k' : Fin n) : Bool := Ideal.cmp .ogt (x k) (x k') == 1#1

theorem gt_iff {n : ℕ} (x : Fin n → EReal) (k k' : Fin n) : gt x k k' = true ↔ x k' < x k := by
  by_cases h : x k' < x k <;> simp [gt, Ideal.cmp, h]

theorem pairwise_insert {n : ℕ} (x : Fin n → EReal) (a : Fin n) (l : List (Fin n)) (ha : ∀ b ∈ l, a < b) (hl : l.Pairwise (Above x)) :
    (insertBefore (gt x) a l).Pairwise (Above x) := by
  induction l with
  | nil => exact List.pairwise_singleton _ _
  | cons b l ih =>
    rw [List.pairwise_cons] at hl
    unfold insertBefore
    split
    · rename_i h
      have hab : Above x b a := .inl ((gt_iff x b a).mp h)
      refine List.pairwise_cons.mpr ⟨fun c hc => ?_, ih (fun c hc => ha c (List.mem_cons_of_mem _ hc)) hl.2⟩
      rcases List.mem_cons.mp ((perm_insertBefore (gt x) a l).mem_iff.mp hc) with rfl | hc'
      · exact hab
      · exact hl.1 c hc'
    · rename_i h
      have hab : Above x a b := by
        have hn : ¬ x a < x b := fun c => h ((gt_iff x b a).mpr c)
        rcases lt_or_eq_of_le (not_lt.mp hn) with c | c
        · exact .inl c
        · exact .inr ⟨c, ha b List.mem_cons_self⟩
      refine List.pairwise_cons.mpr ⟨fun c hc => ?_, List.pairwise_cons.mpr hl⟩
      rcases List.mem_cons.mp hc with rfl | hc'
      · exact hab
      · exact hab.trans (hl.1 c hc')

theorem pairwise_sort {n : ℕ} (x : Fin n → EReal) (l : List (Fin n)) (hl : l.Pairwise (· < ·)) :
    (stableSort (gt x) l).Pairwise (Above x) := by
  induction l with
  | nil => exact List.Pairwise.nil
  | cons a l ih =>
    rw [List.pairwise_cons] at hl
    unfold stableSort
    exact pairwise_insert x a _ (fun b hb => hl.1 b ((perm_stableSort (gt x) l).mem_iff.mp hb)) (ih hl.2)

theorem sorted_above {n : ℕ} (x : Fin n → EReal) (i j : Fin n) (hij : i < j) : Above x (sortedFrom (gt x) i) (sortedFrom (gt x) j) := by
  have hp : ∀ a b : Fin (sortPositions n (gt x)).length, a < b →
      Above x ((sortPositions n (gt x)).get a) ((sortPositions n (gt x)).get b) :=
    List.pairwise_iff_get.mp (pairwise_sort x (List.finRange n) (List.pairwise_lt_finRange n))
  unfold sortedFrom
  exact hp _ _ (by simp only [Fin.lt_def, Fin.val_cast]; exact hij)

theorem Above.le {n : ℕ} {x : Fin n → EReal} {b c : Fin n} (h : Above x b c) : x c ≤ x b ∧ (c < b → x c < x b) := by
  rcases h with h | ⟨h, l⟩
  · exact ⟨h.le, fun _ => h⟩
  · exact ⟨h.le, fun c => absurd c (not_lt.mpr l.le)⟩

theorem sorted_first {n : ℕ} (x : Fin (n + 1) → EReal) : IsFirst x (sortedFrom (gt x) 0) := fun j => by
  obtain ⟨k, rfl⟩ := sortedFrom_surjective (gt x) j
  rcases eq_or_ne k 0 with rfl | h
  · exact ⟨le_rfl, fun c => absurd c (lt_irrefl _)⟩
  · exact (sorted_above x 0 k (Fin.pos_of_ne_zero h)).le

theorem sorted_second {n : ℕ} (x : Fin (n + 2) → EReal) : IsSecond x (sortedFrom (gt x) 0) (sortedFrom (gt x) 1) := by
  refine ⟨fun c => absurd (sortedFrom_injective (gt x) c) (by simp), fun j hj => ?_⟩
  obtain ⟨k, rfl⟩ := sortedFrom_surjective (gt x) j
  have h0 : k ≠ 0 := fun c => hj (congrArg _ c)
  rcases eq_or_ne k 1 with rfl | h
  · exact ⟨le_rfl, fun c => absurd c (lt_irrefl _)⟩
  · refine (sorted_above x 1 k ?_).le
    have a : k.val ≠ 0 := fun c => h0 (Fin.ext c)
    have b : k.val ≠ 1 := fun c => h (Fin.ext (by rw [c, Fin.val_one]))
    rw [Fin.lt_def, Fin.val_one]
    omega

/-! ## Greatest entries and their first places, by folds -/

theorem fold_max_first {n : ℕ} {h : Fin n → EReal} {i : Fin n} (H : IsFirst h i) : Finset.univ.fold max (⊥ : EReal) h = h i := by
  show Finset.univ.sup h = h i
  exact le_antisymm (Finset.sup_le fun j _ => (H j).1) (Finset.le_sup (Finset.mem_univ i))

theorem fold_min_eq {n : ℕ} {f : Fin n → EReal} (i : Fin n) {v : EReal} (hi : f i = v) (h : ∀ j, v ≤ f j) :
    Finset.univ.fold min (⊤ : EReal) f = v := by
  show Finset.univ.inf f = v
  exact le_antisymm (hi ▸ Finset.inf_le (Finset.mem_univ i)) (Finset.le_inf fun j _ => h j)

/-- The lane of the first greatest entry, as the least lane that holds the greatest. -/
theorem fold_min_first {h : Fin 128 → EReal} {i : Fin 128} (H : IsFirst h i) {c : EReal} (hc : ((128 : ℝ) : EReal) ≤ c) :
    Finset.univ.fold min (⊤ : EReal) (fun l => if h l = h i then ((l.val : ℝ) : EReal) else c) = ((i.val : ℝ) : EReal) := by
  refine fold_min_eq i (if_pos rfl) fun j => ?_
  split
  · rename_i e
    have : ¬ j < i := fun c => absurd e ((H j).2 c).ne
    exact_mod_cast (not_lt.mp this : i ≤ j)
  · refine le_trans ?_ hc
    exact_mod_cast i.isLt.le

/-! ## Real logits -/

/-- The softmax of real logits, as printed: against their greatest. -/
def sm {n : ℕ} (a : Fin n → EReal) (g : Fin n) : EReal :=
  Ideal.div (Ideal.exp (a g - Finset.univ.fold max (⊥ : EReal) a)) (∑ x, Ideal.exp (a x - Finset.univ.fold max (⊥ : EReal) a))

/-- The sum of the exponentials against entry `i`. -/
def tot {n : ℕ} (a : Fin n → ℝ) (i : Fin n) : ℝ := ∑ x, Real.exp (a x - a i)

theorem tot_pos {n : ℕ} (a : Fin n → ℝ) (i : Fin n) : 0 < tot a i :=
  Finset.sum_pos (fun x _ => Real.exp_pos _) ⟨i, Finset.mem_univ i⟩

theorem exp_sub (x y : ℝ) : Ideal.exp ((x : EReal) - (y : EReal)) = ((Real.exp (x - y) : ℝ) : EReal) := by
  rw [← EReal.coe_sub, Ideal.exp_coe]

theorem sum_coe {n : ℕ} (f : Fin n → ℝ) : (∑ x, ((f x : ℝ) : EReal)) = ((∑ x, f x : ℝ) : EReal) :=
  (map_sum (⟨⟨Real.toEReal, EReal.coe_zero⟩, EReal.coe_add⟩ : ℝ →+ EReal) _ _).symm

theorem div_real (x y : ℝ) (hy : y ≠ 0) : Ideal.div (x : EReal) (y : EReal) = ((x / y : ℝ) : EReal) := by
  rw [Ideal.div_coe hy, ← EReal.coe_mul, one_div, div_eq_mul_inv]

theorem sm_eq {n : ℕ} {a : Fin n → ℝ} {i : Fin n} (H : IsFirst (fun g => (a g : EReal)) i) (g : Fin n) :
    sm (fun g => (a g : EReal)) g = ((Real.exp (a g - a i) / tot a i : ℝ) : EReal) := by
  unfold sm
  rw [fold_max_first H]
  simp only [exp_sub]
  rw [sum_coe]
  exact div_real _ _ (tot_pos a i).ne'

theorem sm_lt {n : ℕ} {a : Fin n → ℝ} {i : Fin n} (H : IsFirst (fun g => (a g : EReal)) i) {g h : Fin n} (e : (a g : EReal) < (a h : EReal)) :
    sm (fun g => (a g : EReal)) g < sm (fun g => (a g : EReal)) h := by
  rw [sm_eq H, sm_eq H]
  have e' : a g < a h := by exact_mod_cast e
  have : Real.exp (a g - a i) / tot a i < Real.exp (a h - a i) / tot a i :=
    div_lt_div_of_pos_right (Real.exp_lt_exp.mpr (by linarith)) (tot_pos a i)
  exact_mod_cast this

theorem sm_le {n : ℕ} {a : Fin n → ℝ} {i : Fin n} (H : IsFirst (fun g => (a g : EReal)) i) {g h : Fin n} (e : (a g : EReal) ≤ (a h : EReal)) :
    sm (fun g => (a g : EReal)) g ≤ sm (fun g => (a g : EReal)) h := by
  rcases lt_or_eq_of_le e with c | c
  · exact (sm_lt H c).le
  · have c' : a g = a h := by exact_mod_cast c
    rw [sm_eq H, sm_eq H, c']

theorem sm_first {n : ℕ} {a : Fin n → ℝ} {i : Fin n} (H : IsFirst (fun g => (a g : EReal)) i) : IsFirst (sm fun g => (a g : EReal)) i :=
  fun j => ⟨sm_le H (H j).1, fun c => sm_lt H ((H j).2 c)⟩

theorem sm_second {n : ℕ} {a : Fin n → ℝ} {i k : Fin n} (H : IsFirst (fun g => (a g : EReal)) i) (K : IsSecond (fun g => (a g : EReal)) i k) :
    IsSecond (sm fun g => (a g : EReal)) i k :=
  ⟨K.1, fun j hj => ⟨sm_le H (K.2 j hj).1, fun c => sm_lt H ((K.2 j hj).2 c)⟩⟩

/-- The places a descending sort of the softmax starts with are the logits' own. -/
theorem sorted_sm {n : ℕ} {a : Fin (n + 2) → ℝ} {i k : Fin (n + 2)} (H : IsFirst (fun g => (a g : EReal)) i)
    (K : IsSecond (fun g => (a g : EReal)) i k) :
    sortedFrom (gt (sm fun g => (a g : EReal))) 0 = i ∧ sortedFrom (gt (sm fun g => (a g : EReal))) 1 = k := by
  have h := (sorted_first (sm fun g => (a g : EReal))).unique (sm_first H)
  exact ⟨h, (h ▸ sorted_second (sm fun g => (a g : EReal))).unique (sm_second H K)⟩

/-! ## Logits laid out in a longer row, `-∞` elsewhere -/

section Embedded

variable {m n : ℕ} {h : Fin n → EReal} {c : Fin m → ℝ} {p : Fin m → Fin n}

theorem first_embedded (mono : ∀ a b, p a < p b → a < b) (hc : ∀ e, h (p e) = (c e : EReal)) (ho : ∀ l, (∃ e, l = p e) ∨ h l = ⊥)
    {e : Fin m} (H : IsFirst (fun e => (c e : EReal)) e) : IsFirst h (p e) := fun l => by
  rcases ho l with ⟨d, rfl⟩ | hl
  · rw [hc, hc]
    exact ⟨(H d).1, fun q => (H d).2 (mono _ _ q)⟩
  · rw [hl, hc]
    exact ⟨bot_le, fun _ => EReal.bot_lt_coe _⟩

theorem second_embedded (mono : ∀ a b, p a < p b → a < b) (inj : ∀ a b, p a = p b → a = b) (hc : ∀ e, h (p e) = (c e : EReal)) (ho : ∀ l, (∃ e, l = p e) ∨ h l = ⊥)
    {e k : Fin m} (K : IsSecond (fun e => (c e : EReal)) e k) : IsFirst (fun l => if l = p e then ⊥ else h l) (p k) := fun l => by
  have hk : p k ≠ p e := fun q => K.1 (inj _ _ q)
  simp only [if_neg hk, hc]
  rcases ho l with ⟨d, rfl⟩ | hl
  · by_cases q : p d = p e
    · rw [if_pos q]
      exact ⟨bot_le, fun _ => EReal.bot_lt_coe _⟩
    · rw [if_neg q, hc]
      have := K.2 d fun z => q (congrArg p z)
      exact ⟨this.1, fun z => this.2 (mono _ _ z)⟩
  · have : (if l = p e then (⊥ : EReal) else h l) = ⊥ := by split <;> [rfl; exact hl]
    rw [this]
    exact ⟨bot_le, fun _ => EReal.bot_lt_coe _⟩

end Embedded

/-- The lane of group `g`'s logit. -/
def glane (g : Fin 4) : Fin 128 := ⟨g.val, by omega⟩

/-- The lane of the logit of expert `e` of group `g`. -/
def elane (g e : Fin 4) : Fin 128 := ⟨4 + 4 * g.val + e.val, by omega⟩

/-! ## The combine weights -/

/-- The weights of one row: group `i`'s probability, shared between its experts `e₁` and `e₂`. -/
def weight (a : Fin 4 → ℝ) (b : Fin 4 → Fin 4 → ℝ) (i e₁ e₂ : Fin 4) (l : Fin 128) : EReal :=
  if l.val = 4 + 4 * i.val + e₁.val then ((1 / tot a i * (1 / (1 + Real.exp (b i e₂ - b i e₁))) : ℝ) : EReal)
  else if l.val = 4 + 4 * i.val + e₂.val then
    ((1 / tot a i * (Real.exp (b i e₂ - b i e₁) / (1 + Real.exp (b i e₂ - b i e₁))) : ℝ) : EReal)
  else 0

end Cert.Route

end
-- ==== Proof.OutKer.lean ====
module

public import proofs.«01_k».proof.Proof.Norm
public import proofs.«01_k».proof.Proof.Gen.OutProjIdeal.Value
public import Idealize.ShloMosaic.Lib.Pipeline.ValueKit

@[expose] public section

set_option maxRecDepth 16384

noncomputable section

open Idealize.ShloMosaic Idealize.ShloMosaic.TcCoe Idealize.SL.Sem

namespace Cert.OutProjIdeal.KerValue

open Cert.OutProjIdeal Cert.OutProjIdeal.Gen Cert.Norm

/-- A block's row before its norm, from the three products over the row slices of the weights. -/
def brow (xa : FVec Ideal S512x512 .bf16) (wa : FVec Ideal S512x1024 .bf16) (xb : FVec Ideal S512x256 .bf16) (wb : FVec Ideal S256x1024 .bf16)
    (xc : FVec Ideal S512x256 .bf16) (wc : FVec Ideal S256x1024 .bf16) (x : FVec Ideal S512x1024 .f32) (r : Fin 512) (l : Fin 1024) : EReal :=
  Ideal.ofBits .f32 0x3FD744FD#32 * x (ix2 r l) + ((∑ k : Fin 512, xa (ix2 r k) * wa (ix2 k l)) + (∑ k : Fin 256, xb (ix2 r k) * wb (ix2 k l))
    + ∑ k : Fin 256, xc (ix2 r k) * wc (ix2 k l))

theorem pay4_apply (xa : FVec Ideal S512x512 .bf16) (wa : FVec Ideal S512x1024 .bf16) (xb : FVec Ideal S512x256 .bf16) (wb : FVec Ideal S256x1024 .bf16)
    (xc : FVec Ideal S512x256 .bf16) (wc : FVec Ideal S256x1024 .bf16) (x : FVec Ideal S512x1024 .f32) (r : Fin 512) (l : Fin 1024) :
    k0_pay4 (F := Ideal) xa wa xb wb xc wc x (ix2 r l) = brow xa wa xb wb xc wc x r l - mean (brow xa wa xb wb xc wc x r) := by
  unfold mean brow
  pointwise [k0_pay4]

/-- The norm from the centred row and its variance. -/
theorem pay6_apply (g b : FVec Ideal S1x1024 .f32) (y : FVec Ideal S512x1024 .f32) (v : FVec Ideal S512x1 .f32) (r : Fin 512) (l : Fin 1024) :
    k0_pay6 (F := Ideal) g b y v (ix2 r l)
      = y (ix2 r l) * Ideal.rsqrt (v (ix2 r 0) + Ideal.ofBits .f32 0x3727C5AC#32) * g (ix2 0 l) + b (ix2 0 l) := by
  pointwise [k0_pay6]

theorem pay5_apply (xa : FVec Ideal S512x512 .bf16) (wa : FVec Ideal S512x1024 .bf16) (xb : FVec Ideal S512x256 .bf16) (wb : FVec Ideal S256x1024 .bf16)
    (xc : FVec Ideal S512x256 .bf16) (wc : FVec Ideal S256x1024 .bf16) (x : FVec Ideal S512x1024 .f32) (r : Fin 512) :
    k0_pay5 (F := Ideal) xa wa xb wb xc wc x (ix2 r 0)
      = Ideal.div (∑ k, (brow xa wa xb wb xc wc x r k - mean (brow xa wa xb wb xc wc x r)) * (brow xa wa xb wb xc wc x r k - mean (brow xa wa xb wb xc wc x r)))
          (Ideal.ofBits .f32 0x44800000#32) := by
  simp only [← pay4_apply xa wa xb wb xc wc x r]
  unfold k0_pay5
  generalize k0_pay4 (F := Ideal) xa wa xb wb xc wc x = y
  pointwise

theorem x1_apply (xa : FVec Ideal S512x512 .bf16) (wa : FVec Ideal S512x1024 .bf16) (xb : FVec Ideal S512x256 .bf16) (wb : FVec Ideal S256x1024 .bf16)
    (xc : FVec Ideal S512x256 .bf16) (wc : FVec Ideal S256x1024 .bf16) (x : FVec Ideal S512x1024 .f32) (g b : FVec Ideal S1x1024 .f32)
    (r : Fin 512) (l : Fin 1024) :
    k0_pay6 (F := Ideal) (k0_pay2 g) (k0_pay3 b) (k0_pay4 xa wa xb wb xc wc x) (k0_pay5 xa wa xb wb xc wc x) (ix2 r l)
      = lnorm (brow xa wa xb wb xc wc x r) (g (ix2 0 l)) (b (ix2 0 l)) l := by
  rw [pay6_apply, pay4_apply, pay5_apply]
  have e2 : k0_pay2 (F := Ideal) g (ix2 0 l) = g (ix2 0 l) := by pointwise [k0_pay2]
  have e3 : k0_pay3 (F := Ideal) b (ix2 0 l) = b (ix2 0 l) := by pointwise [k0_pay3]
  rw [e2, e3]
  rfl

end Cert.OutProjIdeal.KerValue

end
-- ==== Proof.OutRoute.lean ====
module

public import proofs.«01_k».proof.Proof.Route
public import proofs.«01_k».proof.Proof.OutKer

@[expose] public section

set_option maxRecDepth 16384

noncomputable section

open Idealize.ShloMosaic Idealize.ShloMosaic.TcCoe Idealize.SL.Sem

namespace Cert.OutProjIdeal.KerValue

open Cert.OutProjIdeal Cert.OutProjIdeal.Gen Cert.Route

/-! ## Words of the lanes -/

theorem lane_int : ∀ l : Fin 128, (BitVec.ofNat 32 l.val).toInt = (l.val : ℤ) := by decide +kernel

theorem lane_group : ∀ l : Fin 128, 4 ≤ l.val → (IntOp.shrsi .vector (IntOp.subi (BitVec.ofNat 32 l.val) 4#32) 2#32).toInt = (((l.val - 4) / 4 : ℕ) : ℤ) := by
  decide +kernel

theorem lane_lt : ∀ l : Fin 128, IntOp.cmpi .slt (BitVec.ofNat 32 l.val) 4#32 = BitVec.ofBool (decide (l.val < 4)) := by decide +kernel

theorem lane_in : ∀ l : Fin 128, IntOp.andi (IntOp.cmpi .sge (BitVec.ofNat 32 l.val) 4#32) (IntOp.cmpi .slt (BitVec.ofNat 32 l.val) 20#32)
    = BitVec.ofBool (decide (4 ≤ l.val ∧ l.val < 20)) := by decide +kernel

theorem lane_float (l : Fin 128) : FloatOps.sitofp (F := Ideal) .f32 (BitVec.ofNat 32 l.val) = ((l.val : ℝ) : EReal) := by
  show (((BitVec.ofNat 32 l.val).toInt : ℝ) : EReal) = _
  rw [lane_int, Int.cast_natCast]

theorem ninf : Ideal.ofBits .f32 0xFF800000#32 = (⊥ : EReal) := by simp [Ideal.ofBits, Ideal.ieee]
theorem pinf : Ideal.ofBits .f32 0x7F800000#32 = (⊤ : EReal) := by simp [Ideal.ofBits, Ideal.ieee]
theorem one : Ideal.ofBits .f32 0x3F800000#32 = ((1 : ℝ) : EReal) := by
  simp [Ideal.ofBits, Ideal.ieee, -EReal.coe_mul]; norm_num
theorem million : ((128 : ℝ) : EReal) ≤ Ideal.ofBits .f32 0x49742400#32 := by
  have : Ideal.ofBits .f32 0x49742400#32 = ((1000000 : ℝ) : EReal) := by
    simp [Ideal.ofBits, Ideal.ieee, -EReal.coe_mul]; norm_num
  rw [this]
  exact_mod_cast (by norm_num : (128 : ℝ) ≤ 1000000)

theorem select_bool {α : Type} (p : Prop) [Decidable p] (x y : α) : Scalar.select (BitVec.ofBool (decide p)) x y = if p then x else y := by
  by_cases h : p <;> simp [Scalar.select, h]

/-! ## The router's payloads at a row -/

section Payloads

variable (v19 v21 : FVec Ideal S1x1024 .f32) (v27 : FVec Ideal S512x1024 .f32) (v32 : FVec Ideal S512x1 .f32)
  (wr : FVec Ideal S1024x128 .f32) (br : FVec Ideal S1x128 .f32) (r : Fin 512)

theorem pay7_apply (l : Fin 128) : k0_pay7 (F := Ideal) v19 v21 v27 v32 wr br (ix2 r l)
    = (∑ k : Fin 1024, k0_pay6 (F := Ideal) v19 v21 v27 v32 (ix2 r k) * wr (ix2 k l)) + br (ix2 0 l) := by
  unfold k0_pay7
  generalize k0_pay6 (F := Ideal) v19 v21 v27 v32 = y
  pointwise

theorem pay10_apply (l : Fin 128) : k0_pay10 (F := Ideal) v19 v21 v27 v32 wr br (ix2 r l)
    = if l.val < 4 then k0_pay7 (F := Ideal) v19 v21 v27 v32 wr br (ix2 r l) else ⊥ := by
  unfold k0_pay10
  generalize k0_pay7 (F := Ideal) v19 v21 v27 v32 wr br = y
  rw [← ninf, ← select_bool, ← lane_lt]
  pointwise

theorem pay12_apply : k0_pay12 (F := Ideal) v19 v21 v27 v32 wr br (ix2 r 0)
    = Ideal.div ((1 : ℝ) : EReal) (∑ l : Fin 128, Ideal.exp (k0_pay10 (F := Ideal) v19 v21 v27 v32 wr br (ix2 r l)
        - Finset.univ.fold max (⊥ : EReal) fun l => k0_pay10 (F := Ideal) v19 v21 v27 v32 wr br (ix2 r l))) := by
  unfold k0_pay12 k0_pay11
  generalize k0_pay10 (F := Ideal) v19 v21 v27 v32 wr br = y
  rw [← ninf, ← one]
  pointwise

theorem pay13_apply : k0_pay13 (F := Ideal) v19 v21 v27 v32 wr br (ix1 r)
    = Finset.univ.fold min (⊤ : EReal) fun l : Fin 128 =>
        if k0_pay10 (F := Ideal) v19 v21 v27 v32 wr br (ix2 r l)
          = Finset.univ.fold max (⊥ : EReal) (fun l => k0_pay10 (F := Ideal) v19 v21 v27 v32 wr br (ix2 r l))
        then ((l.val : ℝ) : EReal) else Ideal.ofBits .f32 0x49742400#32 := by
  unfold k0_pay13 k0_pay11
  generalize k0_pay10 (F := Ideal) v19 v21 v27 v32 wr br = y
  simp only [← ninf, ← pinf, ← lane_float]
  pointwise [k0_pay8]

end Payloads

section Experts

variable (lg : FVec Ideal S512x128 .f32) (gp : FVec Ideal S512x1 .f32) (gi : FVec Ideal S512 .f32) (r : Fin 512)

/-- The lanes, as the printed program counts them. -/
abbrev lanes : IVec S512x128 32 := iota .tc S512x128 32 [1] iota_S512x128_d1_w32

theorem pay14_apply (i : Fin 4) (hi : gi (ix1 r) = ((i.val : ℝ) : EReal)) (l : Fin 128) : k0_pay14 (F := Ideal) lg lanes k0_pay9 gi (ix2 r l)
    = if 4 + 4 * i.val ≤ l.val ∧ l.val < 8 + 4 * i.val then lg (ix2 r l) else ⊥ := by
  have e : k0_pay14 (F := Ideal) lg lanes k0_pay9 gi (ix2 r l)
      = Scalar.select (IntOp.andi (IntOp.andi (IntOp.cmpi .sge (BitVec.ofNat 32 l.val) 4#32) (IntOp.cmpi .slt (BitVec.ofNat 32 l.val) 20#32))
          (BitVec.ofBool (decide (FloatOps.sitofp (F := Ideal) .f32 (IntOp.shrsi .vector (IntOp.subi (BitVec.ofNat 32 l.val) 4#32) 2#32) = gi (ix1 r)))))
          (lg (ix2 r l)) (Ideal.ofBits .f32 0xFF800000#32) := by
    pointwise [k0_pay14, k0_pay9]
  rw [e, lane_in, hi, ninf]
  have hb : ∀ a b : Bool, IntOp.andi (BitVec.ofBool a) (BitVec.ofBool b) = BitVec.ofBool (a && b) := by decide
  rw [hb, ← Bool.decide_and, select_bool]
  refine if_congr ?_ rfl rfl
  constructor
  · rintro ⟨⟨h1, h2⟩, h3⟩
    have h3' : (((IntOp.shrsi .vector (IntOp.subi (BitVec.ofNat 32 l.val) 4#32) 2#32).toInt : ℝ) : EReal) = ((i.val : ℝ) : EReal) := h3
    rw [lane_group l h1] at h3'
    have h4 : (l.val - 4) / 4 = i.val := by exact_mod_cast h3'
    omega
  · rintro ⟨h1, h2⟩
    refine ⟨⟨by omega, by omega⟩, ?_⟩
    show (((IntOp.shrsi .vector (IntOp.subi (BitVec.ofNat 32 l.val) 4#32) 2#32).toInt : ℝ) : EReal) = ((i.val : ℝ) : EReal)
    rw [lane_group l (by omega), show (l.val - 4) / 4 = i.val by omega, Int.cast_natCast]

theorem pay15_apply (v50 : IVec S512x128 32) (v56 : FVec Ideal S512x128 .f32) : k0_pay15 (F := Ideal) lg v50 v56 gi (ix2 r 0)
    = Finset.univ.fold max (⊥ : EReal) fun l => k0_pay14 (F := Ideal) lg v50 v56 gi (ix2 r l) := by
  unfold k0_pay15
  generalize k0_pay14 (F := Ideal) lg v50 v56 gi = y
  rw [← ninf]
  pointwise

theorem pay16_apply (v50 : IVec S512x128 32) (v56 : FVec Ideal S512x128 .f32) : k0_pay16 (F := Ideal) lg v50 k0_pay8 v56 gi (ix2 r 0)
    = Finset.univ.fold min (⊤ : EReal) fun l : Fin 128 => if k0_pay14 (F := Ideal) lg v50 v56 gi (ix2 r l) = k0_pay15 (F := Ideal) lg v50 v56 gi (ix2 r 0)
        then ((l.val : ℝ) : EReal) else Ideal.ofBits .f32 0x49742400#32 := by
  unfold k0_pay16
  generalize k0_pay15 (F := Ideal) lg v50 v56 gi = z
  generalize k0_pay14 (F := Ideal) lg v50 v56 gi = y
  simp only [← pinf, ← lane_float]
  pointwise [k0_pay8]

theorem pay17_apply (v50 : IVec S512x128 32) (v56 : FVec Ideal S512x128 .f32) (l : Fin 128) : k0_pay17 (F := Ideal) lg v50 k0_pay8 v56 gi (ix2 r l)
    = if ((l.val : ℝ) : EReal) = k0_pay16 (F := Ideal) lg v50 k0_pay8 v56 gi (ix2 r 0) then ⊥ else k0_pay14 (F := Ideal) lg v50 v56 gi (ix2 r l) := by
  unfold k0_pay17
  generalize k0_pay16 (F := Ideal) lg v50 k0_pay8 v56 gi = z
  generalize k0_pay14 (F := Ideal) lg v50 v56 gi = y
  rw [← ninf, ← lane_float, ← select_bool]
  pointwise [k0_pay8]

theorem pay18_apply (v50 : IVec S512x128 32) (v51 v56 : FVec Ideal S512x128 .f32) : k0_pay18 (F := Ideal) lg v50 v51 v56 gi (ix2 r 0)
    = Finset.univ.fold max (⊥ : EReal) fun l => k0_pay17 (F := Ideal) lg v50 v51 v56 gi (ix2 r l) := by
  unfold k0_pay18
  generalize k0_pay17 (F := Ideal) lg v50 v51 v56 gi = y
  rw [← ninf]
  pointwise

theorem pay19_apply (v50 : IVec S512x128 32) (v51 v56 : FVec Ideal S512x128 .f32) : k0_pay19 (F := Ideal) lg v50 v51 v56 gi (ix2 r 0)
    = Ideal.exp (k0_pay18 (F := Ideal) lg v50 v51 v56 gi (ix2 r 0) - k0_pay15 (F := Ideal) lg v50 v56 gi (ix2 r 0)) := by
  unfold k0_pay19
  generalize k0_pay18 (F := Ideal) lg v50 v51 v56 gi = y
  generalize k0_pay15 (F := Ideal) lg v50 v56 gi = z
  pointwise

/-- The second lane, found again among what is left. -/
def snd (v50 : IVec S512x128 32) (v56 : FVec Ideal S512x128 .f32) : EReal :=
  Finset.univ.fold min (⊤ : EReal) fun l : Fin 128 => if k0_pay17 (F := Ideal) lg v50 k0_pay8 v56 gi (ix2 r l) = k0_pay18 (F := Ideal) lg v50 k0_pay8 v56 gi (ix2 r 0)
        then ((l.val : ℝ) : EReal) else Ideal.ofBits .f32 0x49742400#32

theorem pay1_apply (v50 : IVec S512x128 32) (v56 : FVec Ideal S512x128 .f32) (l : Fin 128) :
    k0_pay1 (k0_pay20 (F := Ideal) lg v50 k0_pay8 v56 gi) (k0_pay21 lg v50 k0_pay8 v56 gp gi) (k0_pay22 lg v50 k0_pay8 v56 gi) (k0_pay23 lg v50 k0_pay8 v56 gp gi)
        (Scalar.ofBits .f32 0x00000000#32) (ix2 r l)
      = if ((l.val : ℝ) : EReal) = k0_pay16 (F := Ideal) lg v50 k0_pay8 v56 gi (ix2 r 0)
        then gp (ix2 r 0) * Ideal.div ((1 : ℝ) : EReal) (((1 : ℝ) : EReal) + k0_pay19 (F := Ideal) lg v50 k0_pay8 v56 gi (ix2 r 0))
        else if ((l.val : ℝ) : EReal) = snd lg gi r v50 v56
        then gp (ix2 r 0) * Ideal.div (k0_pay19 (F := Ideal) lg v50 k0_pay8 v56 gi (ix2 r 0)) (((1 : ℝ) : EReal) + k0_pay19 (F := Ideal) lg v50 k0_pay8 v56 gi (ix2 r 0))
        else 0 := by
  unfold snd k0_pay20 k0_pay21 k0_pay22 k0_pay23
  generalize k0_pay19 (F := Ideal) lg v50 k0_pay8 v56 gi = y9
  generalize k0_pay18 (F := Ideal) lg v50 k0_pay8 v56 gi = y8
  generalize k0_pay17 (F := Ideal) lg v50 k0_pay8 v56 gi = y7
  generalize k0_pay16 (F := Ideal) lg v50 k0_pay8 v56 gi = y6
  simp only [← pinf, ← lane_float, ← one]
  rw [← select_bool, ← select_bool]
  pointwise [k0_pay1, k0_pay8]

end Experts

/-! ## The weights -/

section Weights

variable {v19 v21 : FVec Ideal S1x1024 .f32} {v27 : FVec Ideal S512x1024 .f32} {v32 : FVec Ideal S512x1 .f32}
  {wr : FVec Ideal S1024x128 .f32} {br : FVec Ideal S1x128 .f32} {r : Fin 512} {a : Fin 4 → ℝ} {b : Fin 4 → Fin 4 → ℝ} {i e₁ e₂ : Fin 4}

theorem group_first (ha : ∀ g, k0_pay7 (F := Ideal) v19 v21 v27 v32 wr br (ix2 r (glane g)) = (a g : EReal)) (H : IsFirst (fun g => (a g : EReal)) i) :
    IsFirst (fun l => k0_pay10 (F := Ideal) v19 v21 v27 v32 wr br (ix2 r l)) (glane i) := by
  refine first_embedded (c := a) (p := glane) (fun _ _ h => h) (fun g => ?_) (fun l => ?_) H
  · rw [pay10_apply, if_pos (show (glane g).val < 4 from g.isLt), ha]
  · rw [pay10_apply]
    by_cases h : l.val < 4
    · exact .inl ⟨⟨l.val, h⟩, rfl⟩
    · exact .inr (if_neg h)

theorem group_val (ha : ∀ g, k0_pay7 (F := Ideal) v19 v21 v27 v32 wr br (ix2 r (glane g)) = (a g : EReal)) (g : Fin 4) :
    k0_pay10 (F := Ideal) v19 v21 v27 v32 wr br (ix2 r (glane g)) = (a g : EReal) := by
  rw [pay10_apply, if_pos (show (glane g).val < 4 from g.isLt), ha]

theorem group_index (ha : ∀ g, k0_pay7 (F := Ideal) v19 v21 v27 v32 wr br (ix2 r (glane g)) = (a g : EReal)) (H : IsFirst (fun g => (a g : EReal)) i) :
    k0_pay13 (F := Ideal) v19 v21 v27 v32 wr br (ix1 r) = ((i.val : ℝ) : EReal) := by
  have K := group_first ha H
  rw [pay13_apply, fold_max_first K]
  exact fold_min_first K million

theorem group_weight (ha : ∀ g, k0_pay7 (F := Ideal) v19 v21 v27 v32 wr br (ix2 r (glane g)) = (a g : EReal)) (H : IsFirst (fun g => (a g : EReal)) i) :
    k0_pay12 (F := Ideal) v19 v21 v27 v32 wr br (ix2 r 0) = ((1 / tot a i : ℝ) : EReal) := by
  have K := group_first ha H
  rw [pay12_apply, fold_max_first K]
  rw [group_val ha]
  have e : (∑ l : Fin 128, Ideal.exp (k0_pay10 (F := Ideal) v19 v21 v27 v32 wr br (ix2 r l) - (a i : EReal))) = ((tot a i : ℝ) : EReal) := by
    rw [show (∑ l : Fin 128, Ideal.exp (k0_pay10 (F := Ideal) v19 v21 v27 v32 wr br (ix2 r l) - (a i : EReal)))
        = ∑ l : Fin (4 + 124), Ideal.exp (k0_pay10 (F := Ideal) v19 v21 v27 v32 wr br (ix2 r (Fin.cast rfl l)) - (a i : EReal)) from rfl, Fin.sum_univ_add]
    rw [Finset.sum_eq_zero (s := (Finset.univ : Finset (Fin 124))), add_zero]
    · unfold tot
      rw [← sum_coe]
      refine Finset.sum_congr rfl fun g _ => ?_
      have : Fin.cast rfl (Fin.castAdd 124 g) = glane g := rfl
      rw [this, group_val ha, exp_sub]
    · intro l _
      rw [pay10_apply, if_neg (by simp)]
      simp
  rw [e]
  exact div_real 1 _ (tot_pos a i).ne'

variable {lg : FVec Ideal S512x128 .f32} {gp : FVec Ideal S512x1 .f32} {gi : FVec Ideal S512 .f32}

theorem expert_val (hi : gi (ix1 r) = ((i.val : ℝ) : EReal)) (hb : ∀ e, lg (ix2 r (elane i e)) = (b i e : EReal)) (e : Fin 4) :
    k0_pay14 (F := Ideal) lg lanes k0_pay9 gi (ix2 r (elane i e)) = (b i e : EReal) := by
  rw [pay14_apply lg gi r i hi, if_pos (by simp only [elane]; omega), hb]

theorem expert_lane (hi : gi (ix1 r) = ((i.val : ℝ) : EReal)) (l : Fin 128) :
    (∃ e, l = elane i e) ∨ k0_pay14 (F := Ideal) lg lanes k0_pay9 gi (ix2 r l) = ⊥ := by
  rw [pay14_apply lg gi r i hi]
  by_cases h : 4 + 4 * i.val ≤ l.val ∧ l.val < 8 + 4 * i.val
  · exact .inl ⟨⟨l.val - (4 + 4 * i.val), by omega⟩, Fin.ext (by simp only [elane]; omega)⟩
  · exact .inr (if_neg h)

theorem elane_lt (a b : Fin 4) (h : elane i a < elane i b) : a < b := by
  simp only [elane, Fin.lt_def] at h ⊢; omega

theorem elane_inj (a b : Fin 4) (h : elane i a = elane i b) : a = b := by
  simp only [elane, Fin.ext_iff] at h ⊢; omega

theorem coe_lane (l k : Fin 128) : (((l.val : ℝ) : EReal) = ((k.val : ℝ) : EReal)) ↔ l = k := by
  rw [Fin.ext_iff]; norm_cast

theorem route (hi : gi (ix1 r) = ((i.val : ℝ) : EReal)) (hg : gp (ix2 r 0) = ((1 / tot a i : ℝ) : EReal)) (hb : ∀ e, lg (ix2 r (elane i e)) = (b i e : EReal))
    (H₁ : IsFirst (fun e => (b i e : EReal)) e₁) (H₂ : IsSecond (fun e => (b i e : EReal)) e₁ e₂) (l : Fin 128) :
    k0_pay1 (k0_pay20 (F := Ideal) lg lanes k0_pay8 k0_pay9 gi) (k0_pay21 lg lanes k0_pay8 k0_pay9 gp gi) (k0_pay22 lg lanes k0_pay8 k0_pay9 gi)
        (k0_pay23 lg lanes k0_pay8 k0_pay9 gp gi) (Scalar.ofBits .f32 0x00000000#32) (ix2 r l) = weight a b i e₁ e₂ l := by
  have K : IsFirst (fun l => k0_pay14 (F := Ideal) lg lanes k0_pay9 gi (ix2 r l)) (elane i e₁) :=
    first_embedded (c := b i) (p := elane i) elane_lt (expert_val hi hb) (expert_lane hi) H₁
  have h15 : k0_pay15 (F := Ideal) lg lanes k0_pay9 gi (ix2 r 0) = (b i e₁ : EReal) := by
    rw [pay15_apply, fold_max_first K]
    exact expert_val hi hb e₁
  have h16 : k0_pay16 (F := Ideal) lg lanes k0_pay8 k0_pay9 gi (ix2 r 0) = (((elane i e₁).val : ℝ) : EReal) := by
    rw [pay16_apply, pay15_apply, fold_max_first K]
    exact fold_min_first K million
  have h17 : (fun l => k0_pay17 (F := Ideal) lg lanes k0_pay8 k0_pay9 gi (ix2 r l))
      = fun l => if l = elane i e₁ then ⊥ else k0_pay14 (F := Ideal) lg lanes k0_pay9 gi (ix2 r l) := by
    funext l
    rw [pay17_apply, h16]
    exact if_congr (coe_lane _ _) rfl rfl
  have K' : IsFirst (fun l => k0_pay17 (F := Ideal) lg lanes k0_pay8 k0_pay9 gi (ix2 r l)) (elane i e₂) := by
    rw [h17]
    exact second_embedded (c := b i) (p := elane i) elane_lt elane_inj (expert_val hi hb) (expert_lane hi) H₂
  have h18 : k0_pay18 (F := Ideal) lg lanes k0_pay8 k0_pay9 gi (ix2 r 0) = (b i e₂ : EReal) := by
    rw [pay18_apply, fold_max_first K', congrFun h17 (elane i e₂), if_neg fun h => H₂.1 (elane_inj _ _ h)]
    exact expert_val hi hb e₂
  have hs : snd lg gi r lanes k0_pay9 = (((elane i e₂).val : ℝ) : EReal) := by
    unfold snd
    rw [pay18_apply, fold_max_first K']
    exact fold_min_first K' million
  have h19 : k0_pay19 (F := Ideal) lg lanes k0_pay8 k0_pay9 gi (ix2 r 0) = ((Real.exp (b i e₂ - b i e₁) : ℝ) : EReal) := by
    rw [pay19_apply, h18, h15, exp_sub]
  have hp : 1 + Real.exp (b i e₂ - b i e₁) ≠ 0 := by positivity
  rw [pay1_apply, h16, h19, hs, hg, ← EReal.coe_add, div_real _ _ hp, div_real _ _ hp, ← EReal.coe_mul, ← EReal.coe_mul]
  unfold weight
  refine if_congr ((coe_lane _ _).trans Fin.ext_iff) rfl (if_congr ((coe_lane _ _).trans Fin.ext_iff) rfl rfl)

end Weights

end Cert.OutProjIdeal.KerValue

end
-- ==== Proof.OutPure.lean ====
module

public import proofs.«01_k».proof.Proof.Norm
public import proofs.«01_k».proof.Proof.Gen.OutProjRefIdeal.Read
public import Idealize.ShloMosaic.Lib.Pipeline.ValueKit

@[expose] public section

set_option maxRecDepth 16384

noncomputable section

open Idealize.ShloMosaic Idealize.ShloMosaic.TcCoe Idealize.SL.Sem

namespace Cert.OutProjRefIdeal.RefValue

open Cert.OutProjRefIdeal Cert.OutProjRefIdeal.Gen Cert.OutProjRefIdeal.Read Cert.Norm

variable (x : FVec Ideal S16384x1024 .f32) (ya : FVec Ideal S16384x512 .bf16) (yb yc : FVec Ideal S16384x256 .bf16)
  (w : FVec Ideal S1024x1024 .f32) (g b : FVec Ideal S1024 .f32)

/-- The three mixers' outputs side by side. -/
def heads (r : Fin 16384) (k : Fin 1024) : EReal :=
  if h : k.val < 512 then ya (ix2 r ⟨k.val, by omega⟩) else if h : k.val - 512 < 256 then yb (ix2 r ⟨k.val - 512, by omega⟩)
  else yc (ix2 r ⟨k.val - 512 - 256, by omega⟩)

/-- The row before its norm. -/
def row (r : Fin 16384) (l : Fin 1024) : EReal :=
  Ideal.ofBits .f32 0x3FD744FD#32 * x (ix2 r l) + ∑ k : Fin 1024, heads ya yb yc r k * w (ix2 k l)

theorem row_apply (r : Fin 16384) (l : Fin 1024) :
    val_main_v7 (F := Ideal) x ya yb yc w (ix2 r l) = row x ya yb yc w r l := by
  unfold row
  pointwise [val_main_v7, val_main_v6, val_main_v5, val_main_v4, val_main_v3, val_main_v2, val_main_v1, val_main_v0, val_main_cst, heads]

theorem ref_apply (r : Fin 16384) (l : Fin 1024) :
    val_main_v31 (F := Ideal) x ya yb yc w g b (ix2 r l) = lnorm (row x ya yb yc w r) (g (ix1 l)) (b (ix1 l)) l := by
  have e := row_apply x ya yb yc w r
  unfold lnorm mean
  simp only [← e]
  unfold val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8
  clear e
  generalize val_main_v7 (F := Ideal) x ya yb yc w = y
  pointwise [val_main_cst_0, val_main_cst_1, val_main_cst_2, val_main_cst_3, val_main_cst_4]

end Cert.OutProjRefIdeal.RefValue

end
-- ==== Proof.RefRoute.lean ====
module

public import proofs.«01_k».proof.Proof.Route
public import proofs.«01_k».proof.Proof.OutPure

@[expose] public section

set_option maxRecDepth 16384

noncomputable section

open Idealize.ShloMosaic Idealize.ShloMosaic.TcCoe Idealize.SL.Sem
open Idealize.ShloMosaic.Pipeline (Dat)

namespace Cert.OutProjRefIdeal.RefValue

open Cert.OutProjRefIdeal Cert.OutProjRefIdeal.Gen Cert.OutProjRefIdeal.Read Cert.Route

/-! ## The two selections, read at a row -/

theorem along_row (r : Fin 16384) (g k : Fin 4) : (ix2 r g : S16384x4.Idx).along (1 : Fin 2) k = ix2 r k := by
  funext a
  fin_cases a <;> rfl

theorem sorted_row (x : S16384x4.Idx → EReal) (y : S16384x4.Idx → BitVec 32) (r : Fin 16384) (k : Fin 4) :
    (Host.sort2 S16384x4 1 (fun l r => FloatOps.cmpfTotal (F := Ideal) (φ := .f32) .gt l.1 r.1) x y).1 (ix2 r k)
        = x (ix2 r (sortedFrom (gt fun g => x (ix2 r g)) k))
      ∧ (Host.sort2 S16384x4 1 (fun l r => FloatOps.cmpfTotal (F := Ideal) (φ := .f32) .gt l.1 r.1) x y).2 (ix2 r k)
        = y (ix2 r (sortedFrom (gt fun g => x (ix2 r g)) k)) := by
  have e : (fun q q' => FloatOps.cmpfTotal (F := Ideal) (φ := .f32) .gt (x ((ix2 r k : S16384x4.Idx).along (1 : Fin 2) q)) (x ((ix2 r k : S16384x4.Idx).along (1 : Fin 2) q')) == 1#1)
      = gt fun g => x (ix2 r g) := by
    funext q q'
    have h : ∀ k', x ((ix2 r k : S16384x4.Idx).along (1 : Fin 2) k') = x (ix2 r k') := fun k' => congrArg x (along_row r k k')
    exact congrArg₂ (fun a b : EReal => Ideal.cmp .ogt a b == 1#1) (h q) (h q')
  have h := (congrArg (fun B : Fin 4 → Fin 4 → Bool => (ix2 r k : S16384x4.Idx).along (1 : Fin 2) (sortedFrom B k)) e).trans (along_row r k _)
  exact ⟨congrArg x h, congrArg y h⟩

variable (v : FVec Ideal S16384x4 .f32) (r : Fin 16384)

/-- A row's entries and their places, greatest first. -/
abbrev sorted : (S16384x4.Idx → EReal) × (S16384x4.Idx → BitVec 32) :=
  Host.sort2 S16384x4 1 (fun l r => FloatOps.cmpfTotal (F := Ideal) (φ := .f32) .gt l.1 r.1) v fun i => BitVec.ofNat 32 (i 1).val

theorem top1_val : (Host.topK S16384x1 1 (FloatOps.cmpfTotal (F := Ideal) (φ := .f32) .gt) v sliceFits_S16384x4_S16384x1).1 (ix2 r 0)
    = v (ix2 r (sortedFrom (gt fun g => v (ix2 r g)) 0)) := by
  refine Eq.trans ?_ (sorted_row v (fun i => BitVec.ofNat 32 (i 1).val) r 0).1
  refine congrArg (sorted v).1 (funext fun a => Fin.ext ?_)
  fin_cases a <;> simp

theorem top1_idx : (Host.topK S16384x1 1 (FloatOps.cmpfTotal (F := Ideal) (φ := .f32) .gt) v sliceFits_S16384x4_S16384x1).2 (ix2 r 0)
    = BitVec.ofNat 32 (sortedFrom (gt fun g => v (ix2 r g)) 0).val := by
  refine Eq.trans ?_ (sorted_row v (fun i => BitVec.ofNat 32 (i 1).val) r 0).2
  refine congrArg (sorted v).2 (funext fun a => Fin.ext ?_)
  fin_cases a <;> simp

theorem top2_val (k : Fin 2) : (Host.topK S16384x2 1 (FloatOps.cmpfTotal (F := Ideal) (φ := .f32) .gt) v sliceFits_S16384x4_S16384x2).1 (ix2 r k)
    = v (ix2 r (sortedFrom (gt fun g => v (ix2 r g)) (k.castLE (by decide)))) := by
  refine Eq.trans ?_ (sorted_row v (fun i => BitVec.ofNat 32 (i 1).val) r (k.castLE (by decide))).1
  refine congrArg (sorted v).1 (funext fun a => Fin.ext ?_)
  fin_cases a <;> simp

theorem top2_idx (k : Fin 2) : (Host.topK S16384x2 1 (FloatOps.cmpfTotal (F := Ideal) (φ := .f32) .gt) v sliceFits_S16384x4_S16384x2).2 (ix2 r k)
    = BitVec.ofNat 32 (sortedFrom (gt fun g => v (ix2 r g)) (k.castLE (by decide))).val := by
  refine Eq.trans ?_ (sorted_row v (fun i => BitVec.ofNat 32 (i 1).val) r (k.castLE (by decide))).2
  refine congrArg (sorted v).2 (funext fun a => Fin.ext ?_)
  fin_cases a <;> simp

/-! ## The logits and their softmax -/

theorem ninf : Ideal.ofBits .f32 0xFF800000#32 = (⊥ : EReal) := by simp [Ideal.ofBits, Ideal.ieee]

variable (x : FVec Ideal S16384x1024 .f32) (ya : FVec Ideal S16384x512 .bf16) (yb yc : FVec Ideal S16384x256 .bf16)
  (w : FVec Ideal S1024x1024 .f32) (g b : FVec Ideal S1024 .f32) (gw : FVec Ideal S1024x4 .f32) (gb : FVec Ideal S4 .f32)
  (ew : FVec Ideal S4x1024x4 .f32) (eb : FVec Ideal S4x4 .f32)

theorem group_logit (q : Fin 4) : val_main_v35 (F := Ideal) x ya yb yc w g b gw gb (ix2 r q)
    = (∑ k : Fin 1024, val_main_v31 (F := Ideal) x ya yb yc w g b (ix2 r k) * gw (ix2 k q)) + gb (ix1 q) := by
  unfold val_main_v35 val_main_v32
  generalize val_main_v31 (F := Ideal) x ya yb yc w g b = y
  pointwise [val_main_v34, val_main_v33]

theorem expert_logit (q e : Fin 4) : val_main_v50 (F := Ideal) x ya yb yc w g b ew eb (ix3 r q e)
    = (∑ k : Fin 1024, val_main_v31 (F := Ideal) x ya yb yc w g b (ix2 r k) * ew (ix3 q k e)) + eb (ix2 q e) := by
  unfold val_main_v50 val_main_v47
  generalize val_main_v31 (F := Ideal) x ya yb yc w g b = y
  pointwise [val_main_v49, val_main_v48]

theorem group_softmax (q : Fin 4) : val_main_v46 (F := Ideal) x ya yb yc w g b gw gb (ix2 r q)
    = sm (fun q => val_main_v35 (F := Ideal) x ya yb yc w g b gw gb (ix2 r q)) q := by
  unfold sm val_main_v46 val_main_v45 val_main_v44 val_main_v43 val_main_v42 val_main_v41 val_main_v40 val_main_v39 val_main_v38 val_main_v37 val_main_v36
  generalize val_main_v35 (F := Ideal) x ya yb yc w g b gw gb = y
  have e : ∀ z : EReal, max ⊥ z = z := fun z => max_eq_right bot_le
  pointwise [val_main_cst_5, val_main_cst_6, val_main_cst_7]
  simp only [ninf, e]

theorem expert_softmax (q : Fin 4) : val_main_v64 (F := Ideal) x ya yb yc w g b gw gb ew eb (ix2 r q)
    = sm (fun q => val_main_v53 (F := Ideal) x ya yb yc w g b gw gb ew eb (ix2 r q)) q := by
  unfold sm val_main_v64 val_main_v63 val_main_v62 val_main_v61 val_main_v60 val_main_v59 val_main_v58 val_main_v57 val_main_v56 val_main_v55 val_main_v54
  generalize val_main_v53 (F := Ideal) x ya yb yc w g b gw gb ew eb = y
  have e : ∀ z : EReal, max ⊥ z = z := fun z => max_eq_right bot_le
  pointwise [val_main_cst_8, val_main_cst_9, val_main_cst_10]
  simp only [ninf, e]

/-- A one-hot entry, as a number. -/
def hot (p q : BitVec 32) : EReal := FloatOps.uitofp (F := Ideal) .f32 (IntOp.cmpi .eq p q)

theorem hot_eq (p q : BitVec 32) : hot p q = if p = q then 1 else 0 := by
  show (((IntOp.cmpi .eq p q).toNat : ℝ) : EReal) = _
  by_cases h : p = q
  · simp [IntOp.cmpi, h]
  · simp [IntOp.cmpi, h]

theorem group_hot (q : Fin 4) : val_main_v52 (F := Ideal) x ya yb yc w g b gw gb (ix2 r q)
    = hot (val_main_indices (F := Ideal) x ya yb yc w g b gw gb (ix2 r 0)) (BitVec.ofNat 32 q.val) := by
  unfold hot val_main_v52 val_main_call0_v4 val_main_call0_v2 val_main_call0_v0 val_main_v51
  generalize val_main_indices (F := Ideal) x ya yb yc w g b gw gb = y
  pointwise [val_main_call0_v3, val_main_call0_v1]

theorem chosen_logit (e : Fin 4) : val_main_v53 (F := Ideal) x ya yb yc w g b gw gb ew eb (ix2 r e)
    = ∑ q : Fin 4, val_main_v50 (F := Ideal) x ya yb yc w g b ew eb (ix3 r q e) * val_main_v52 (F := Ideal) x ya yb yc w g b gw gb (ix2 r q) := by
  unfold val_main_v53
  generalize val_main_v50 (F := Ideal) x ya yb yc w g b ew eb = y
  generalize val_main_v52 (F := Ideal) x ya yb yc w g b gw gb = z
  pointwise

theorem share (k : Fin 2) : val_main_v68 (F := Ideal) x ya yb yc w g b gw gb ew eb (ix2 r k)
    = Ideal.div (val_main_values_11 (F := Ideal) x ya yb yc w g b gw gb ew eb (ix2 r k))
        (∑ k : Fin 2, val_main_values_11 (F := Ideal) x ya yb yc w g b gw gb ew eb (ix2 r k)) := by
  unfold val_main_v68 val_main_v67 val_main_v66 val_main_v65
  generalize val_main_values_11 (F := Ideal) x ya yb yc w g b gw gb ew eb = y
  pointwise [val_main_cst_13]

theorem expert_id (k : Fin 2) : val_main_v72 (F := Ideal) x ya yb yc w g b gw gb ew eb (ix2 r k)
    = IntOp.addi (IntOp.muli (val_main_indices (F := Ideal) x ya yb yc w g b gw gb (ix2 r 0)) 4#32)
        (val_main_indices_12 (F := Ideal) x ya yb yc w g b gw gb ew eb (ix2 r k)) := by
  unfold val_main_v72 val_main_v71 val_main_v70
  generalize val_main_indices (F := Ideal) x ya yb yc w g b gw gb = y
  generalize val_main_indices_12 (F := Ideal) x ya yb yc w g b gw gb ew eb = z
  pointwise [val_main_v69, val_main_c]

theorem combined (j : Fin 16) : val_main_v79 (F := Ideal) x ya yb yc w g b gw gb ew eb (ix2 r j)
    = ∑ k : Fin 2, hot (val_main_v72 (F := Ideal) x ya yb yc w g b gw gb ew eb (ix2 r k)) (BitVec.ofNat 32 j.val)
        * (val_main_values (F := Ideal) x ya yb yc w g b gw gb (ix2 r 0) * val_main_v68 (F := Ideal) x ya yb yc w g b gw gb ew eb (ix2 r k)) := by
  unfold hot val_main_v79 val_main_v78 val_main_v77 val_main_v76 val_main_v75 val_main_v74 val_main_v73 val_main_call1_v4 val_main_call1_v2 val_main_call1_v0
  generalize val_main_v72 (F := Ideal) x ya yb yc w g b gw gb ew eb = y
  generalize val_main_v68 (F := Ideal) x ya yb yc w g b gw gb ew eb = z
  generalize val_main_values (F := Ideal) x ya yb yc w g b gw gb = u
  pointwise [val_main_call1_v3, val_main_call1_v1, val_main_cst_14]

theorem padded (l : Fin 128) : val_main_v80 (F := Ideal) x ya yb yc w g b gw gb ew eb (ix2 r l)
    = if h : 4 ≤ l.val ∧ l.val < 20 then val_main_v79 (F := Ideal) x ya yb yc w g b gw gb ew eb (ix2 r ⟨l.val - 4, by omega⟩) else 0 := by
  unfold val_main_v80
  generalize val_main_v79 (F := Ideal) x ya yb yc w g b gw gb ew eb = y
  pointwise [val_main_call2_v0, val_main_c_15]
  by_cases h : 4 ≤ l.val ∧ l.val < 20
  · rw [dif_pos h, dif_pos ⟨h.1, by omega⟩]
  · rw [dif_neg h, dif_neg fun c => h ⟨c.1, by omega⟩]
    show (((0#32 : BitVec 32).toInt : ℝ) : EReal) = 0
    simp

/-! ## The weights -/

section Weights

variable {x ya yb yc w g b gw gb ew eb r} {p : Fin 4 → ℝ} {q : Fin 4 → Fin 4 → ℝ} {i e₁ e₂ : Fin 4}

theorem ofNat_inj : ∀ i q : Fin 4, BitVec.ofNat 32 i.val = BitVec.ofNat 32 q.val ↔ i = q := by decide

theorem id_word : ∀ i e : Fin 4, ∀ j : Fin 16, IntOp.addi (IntOp.muli (BitVec.ofNat 32 i.val) 4#32) (BitVec.ofNat 32 e.val) = BitVec.ofNat 32 j.val
    ↔ j.val = 4 * i.val + e.val := by decide +kernel

variable (hp : ∀ k, val_main_v35 (F := Ideal) x ya yb yc w g b gw gb (ix2 r k) = (p k : EReal))
  (hq : ∀ k e, val_main_v50 (F := Ideal) x ya yb yc w g b ew eb (ix3 r k e) = (q k e : EReal))
  (H : IsFirst (fun k => (p k : EReal)) i) (H' : ∃ k, IsSecond (fun k => (p k : EReal)) i k)
  (H₁ : IsFirst (fun e => (q i e : EReal)) e₁) (H₂ : IsSecond (fun e => (q i e : EReal)) e₁ e₂)

include hp in
theorem group_row : (fun k => val_main_v46 (F := Ideal) x ya yb yc w g b gw gb (ix2 r k)) = sm fun k => (p k : EReal) := by
  funext k
  rw [group_softmax]
  simp only [hp]

include hp H H' in
theorem group_index : val_main_indices (F := Ideal) x ya yb yc w g b gw gb (ix2 r 0) = BitVec.ofNat 32 i.val := by
  obtain ⟨k, H'⟩ := H'
  unfold val_main_indices
  rw [top1_idx, group_row hp, (sorted_sm H H').1]

include hp H H' in
theorem group_weight : val_main_values (F := Ideal) x ya yb yc w g b gw gb (ix2 r 0) = ((1 / tot p i : ℝ) : EReal) := by
  obtain ⟨k, H'⟩ := H'
  unfold val_main_values
  rw [top1_val, group_row hp, (sorted_sm H H').1, group_softmax]
  simp only [hp]
  rw [sm_eq H, sub_self, Real.exp_zero]

include hp hq H H' in
theorem chosen (e : Fin 4) : val_main_v53 (F := Ideal) x ya yb yc w g b gw gb ew eb (ix2 r e) = (q i e : EReal) := by
  rw [chosen_logit, Finset.sum_eq_single i]
  · rw [group_hot, group_index hp H H', hot_eq, if_pos rfl, mul_one, hq]
  · intro k _ hk
    rw [group_hot, group_index hp H H', hot_eq, if_neg fun c => hk ((ofNat_inj i k).mp c).symm, mul_zero]
  · exact fun h => absurd (Finset.mem_univ i) h

include hp hq H H' in
theorem expert_row : (fun e => val_main_v64 (F := Ideal) x ya yb yc w g b gw gb ew eb (ix2 r e)) = sm fun e => (q i e : EReal) := by
  funext k
  rw [expert_softmax]
  simp only [chosen hp hq H H']

/-- The chosen experts, first and second. -/
def pick (e₁ e₂ : Fin 4) (k : Fin 2) : Fin 4 := if k = 0 then e₁ else e₂

include hp hq H H' H₁ H₂ in
theorem picks (k : Fin 2) : sortedFrom (gt fun e => val_main_v64 (F := Ideal) x ya yb yc w g b gw gb ew eb (ix2 r e)) (k.castLE (by decide)) = pick e₁ e₂ k := by
  rw [expert_row hp hq H H']
  fin_cases k
  · exact (sorted_sm H₁ H₂).1
  · exact (sorted_sm H₁ H₂).2

include hp hq H H' H₁ H₂ in
theorem expert_weight (k : Fin 2) : val_main_values_11 (F := Ideal) x ya yb yc w g b gw gb ew eb (ix2 r k)
    = ((Real.exp (q i (pick e₁ e₂ k) - q i e₁) / tot (q i) e₁ : ℝ) : EReal) := by
  unfold val_main_values_11
  rw [top2_val, picks hp hq H H' H₁ H₂, congrFun (expert_row hp hq H H') (pick e₁ e₂ k), sm_eq H₁]

include hp hq H H' H₁ H₂ in
theorem expert_index (k : Fin 2) : val_main_indices_12 (F := Ideal) x ya yb yc w g b gw gb ew eb (ix2 r k) = BitVec.ofNat 32 (pick e₁ e₂ k).val := by
  unfold val_main_indices_12
  rw [top2_idx, picks hp hq H H' H₁ H₂]

include hp hq H H' H₁ H₂ in
theorem expert_share (k : Fin 2) : val_main_v68 (F := Ideal) x ya yb yc w g b gw gb ew eb (ix2 r k)
    = ((Real.exp (q i (pick e₁ e₂ k) - q i e₁) / (1 + Real.exp (q i e₂ - q i e₁)) : ℝ) : EReal) := by
  have ht := tot_pos (q i) e₁
  have hs : Real.exp (q i (pick e₁ e₂ 0) - q i e₁) = 1 := by
    rw [show pick e₁ e₂ 0 = e₁ from rfl, sub_self, Real.exp_zero]
  rw [share, Fin.sum_univ_two]
  simp only [expert_weight hp hq H H' H₁ H₂]
  rw [hs, show pick e₁ e₂ 1 = e₂ from rfl, ← EReal.coe_add, div_real _ _ (by positivity)]
  congr 1
  field_simp

include hp hq H H' H₁ H₂ in
theorem route (l : Fin 128) : val_main_v80 (F := Ideal) x ya yb yc w g b gw gb ew eb (ix2 r l) = weight p q i e₁ e₂ l := by
  have hne : e₂.val ≠ e₁.val := fun c => H₂.1 (Fin.ext c)
  rw [padded]
  unfold weight
  by_cases h : 4 ≤ l.val ∧ l.val < 20
  · rw [dif_pos h, combined, Fin.sum_univ_two]
    simp only [expert_id, group_index hp H H', expert_index hp hq H H' H₁ H₂, group_weight hp H H', expert_share hp hq H H' H₁ H₂, hot_eq]
    simp only [id_word i _ ⟨l.val - 4, by omega⟩, show pick e₁ e₂ 0 = e₁ from rfl, show pick e₁ e₂ 1 = e₂ from rfl, sub_self, Real.exp_zero, ← EReal.coe_mul]
    by_cases h1 : l.val = 4 + 4 * i.val + e₁.val
    · rw [if_pos h1, if_pos (by omega), if_neg (by omega), one_mul, zero_mul, add_zero]
    · rw [if_neg h1, if_neg (by omega), zero_mul, zero_add]
      by_cases h2 : l.val = 4 + 4 * i.val + e₂.val
      · rw [if_pos h2, if_pos (by omega), one_mul]
      · rw [if_neg h2, if_neg (by omega), zero_mul]
  · rw [dif_neg h, if_neg (by omega), if_neg (by omega)]

end Weights

end Cert.OutProjRefIdeal.RefValue

end
-- ==== Proof.OutValue.lean ====
module

public import proofs.«01_k».proof.Proof.OutPure
public import proofs.«01_k».proof.Proof.OutKer
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProjIdeal.KerValue

open Cert.OutProjIdeal Cert.OutProjIdeal.Gen Cert.Norm

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0] ∧ t.val < 32 :=
  (by decide +kernel : ∀ t : Fin grid0.N, _)

/-- A vector laid out as one row. -/
theorem lift_apply (v : S1024.Idx → EReal) (h : S1024.ShapeCasts S1x1024) (j : S1x1024.Idx) :
    shapeCast S1x1024 v h j = v (ix1 (j 1)) := by
  idx_vars j
  pointwise

/-- A sum over the rows of the weights by its three slices. -/
theorem sum_slices (f : Fin 1024 → EReal) :
    ∑ k, f k = (∑ k : Fin 512, f ⟨k.val, by omega⟩) + (∑ k : Fin 256, f ⟨512 + k.val, by omega⟩) + ∑ k : Fin 256, f ⟨768 + k.val, by omega⟩ := by
  have h1 := Fin.sum_univ_add (a := 768) (b := 256) f
  have h2 := Fin.sum_univ_add (a := 512) (b := 256) fun k => f (Fin.castAdd 256 k)
  exact h1.trans (congrArg (· + _) h2)

theorem ld1 (v : FVec Ideal S1024x1024 .bf16) (k : Fin 512) (l : Fin 1024) :
    View.ld (Val := Elt Ideal) (e' := .bf16) v r0_1 (ix2 k l) = v (ix2 ⟨k.val, by omega⟩ l) := by
  refine congrArg v (funext fun a => Fin.ext ?_)
  fin_cases a
  · show 0 + 1 * k.val = k.val
    omega
  · show 0 + 1 * l.val = l.val
    omega

theorem ld3 (v : FVec Ideal S1024x1024 .bf16) (k : Fin 256) (l : Fin 1024) :
    View.ld (Val := Elt Ideal) (e' := .bf16) v r0_3 (ix2 k l) = v (ix2 ⟨512 + k.val, by omega⟩ l) := by
  refine congrArg v (funext fun a => Fin.ext ?_)
  fin_cases a
  · show 512 + 1 * k.val = 512 + k.val
    omega
  · show 0 + 1 * l.val = l.val
    omega

theorem ld4 (v : FVec Ideal S1024x1024 .bf16) (k : Fin 256) (l : Fin 1024) :
    View.ld (Val := Elt Ideal) (e' := .bf16) v r0_4 (ix2 k l) = v (ix2 ⟨768 + k.val, by omega⟩ l) := by
  refine congrArg v (funext fun a => Fin.ext ?_)
  fin_cases a
  · show 768 + 1 * k.val = 768 + k.val
    omega
  · show 0 + 1 * l.val = l.val
    omega

/-- The reference's row before its norm, on this call's arguments. -/
abbrev urow (c : Dev nD) : Fin 16384 → Fin 1024 → EReal :=
  Cert.OutProjRefIdeal.RefValue.row (m ((c : Thread nD τ).loc main_arg0)) (m ((c : Thread nD τ).loc main_arg1)) (m ((c : Thread nD τ).loc main_arg2))
    (m ((c : Thread nD τ).loc main_arg3)) (m ((c : Thread nD τ).loc main_arg4))

open Cert.OutProjRefIdeal.RefValue (heads row ref_apply)

theorem brow_eq (c : Dev nD) (t : Fin cfg0.N) (r : Fin 512) (R : Fin 16384) (hR : R.val = t.val * 512 + r.val) :
    brow (iblk m c 1 t) (View.ld (iblk m c 4 t) r0_1) (iblk m c 2 t) (View.ld (iblk m c 4 t) r0_3)
      (iblk m c 3 t) (View.ld (iblk m c 4 t) r0_4) (iblk m c 0 t) r = urow m c R := by
  funext l
  unfold brow urow row
  rw [sum_slices]
  refine Ideal.add_congr (Ideal.mul_congr rfl ?_) (Ideal.add_congr (Ideal.add_congr (Finset.sum_congr rfl fun k _ => Ideal.mul_congr ?_ ?_)
    (Finset.sum_congr rfl fun k _ => Ideal.mul_congr ?_ ?_)) (Finset.sum_congr rfl fun k _ => Ideal.mul_congr ?_ ?_))
  · blk_ext [iblk, V, idx t]
  · rw [heads, dif_pos k.isLt]
    blk_ext [iblk, V, idx t]
  · refine (ld1 _ k l).trans ?_
    simp only [iblk]
    entry_read
    blk_ext  [idx t]
  · rw [heads, dif_neg (by simp), dif_pos (by simp)]
    blk_ext [iblk, V, idx t]
  · refine (ld3 _ k l).trans ?_
    simp only [iblk]
    entry_read
    blk_ext  [idx t]
  · rw [heads, dif_neg (by simp; omega), dif_neg (by simp; omega)]
    blk_ext [iblk, V, idx t]
  · refine (ld4 _ k l).trans ?_
    simp only [iblk]
    entry_read
    blk_ext  [idx t]

theorem gain_eq (c : Dev nD) (t : Fin cfg0.N) (l : Fin 1024) :
    (show FVec Ideal S1x1024 .f32 from iblk m c 5 t) (ix2 0 l) = (show FVec Ideal S1024 .f32 from m ((c : Thread nD τ).loc main_arg5)) (ix1 l) := by
  simp only [iblk]
  entry_read
  refine (lift_apply _ _ _).trans ?_
  blk_ext [idx t]

theorem offset_eq (c : Dev nD) (t : Fin cfg0.N) (l : Fin 1024) :
    (show FVec Ideal S1x1024 .f32 from iblk m c 6 t) (ix2 0 l) = (show FVec Ideal S1024 .f32 from m ((c : Thread nD τ).loc main_arg6)) (ix1 l) := by
  simp only [iblk]
  entry_read
  refine (lift_apply _ _ _).trans ?_
  blk_ext [idx t]

/-- The normed row of a block is the reference's. -/
theorem x1_eq (c : Dev nD) (t : Fin cfg0.N) (r : Fin 512) (l : Fin 1024) (R : Fin 16384) (hR : R.val = t.val * 512 + r.val) :
    k0_pay6 (F := Ideal) (k0_pay2 (iblk m c 5 t)) (k0_pay3 (iblk m c 6 t))
      (k0_pay4 (iblk m c 1 t) (View.ld (iblk m c 4 t) r0_1) (iblk m c 2 t) (View.ld (iblk m c 4 t) r0_3)
        (iblk m c 3 t) (View.ld (iblk m c 4 t) r0_4) (iblk m c 0 t))
      (k0_pay5 (iblk m c 1 t) (View.ld (iblk m c 4 t) r0_1) (iblk m c 2 t) (View.ld (iblk m c 4 t) r0_3)
        (iblk m c 3 t) (View.ld (iblk m c 4 t) r0_4) (iblk m c 0 t)) (ix2 r l)
      = Cert.OutProjRefIdeal.Read.val_main_v31 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (ix2 R l) := by
  refine (x1_apply _ _ _ _ _ _ _ _ _ r l).trans ?_
  have lcongr : ∀ {u u' : Fin 1024 → EReal} {g g' b b' : EReal}, u = u' → g = g' → b = b' → lnorm u g b l = lnorm u' g' b' l := by
    rintro _ _ _ _ _ _ rfl rfl rfl; rfl
  refine (lcongr (brow_eq m c t r R hR) (gain_eq m c t l) (offset_eq m c t l)).trans ?_
  exact (ref_apply _ _ _ _ _ _ _ _ _).symm

theorem pointX (c : Dev nD) (t : Fin cfg0.N) (y : S512x1024.Idx) :
    out0_9 (iblk m c 0 t) (iblk m c 1 t) (iblk m c 2 t) (iblk m c 3 t) (iblk m c 4 t) (iblk m c 5 t) (iblk m c 6 t) (iblk m c 7 t) (iblk m c 8 t) y
      = Cert.OutProjRefIdeal.Read.val_main_v31 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (((cfg0.win 9).blk t).view.emb y) := by
  have ht : t.val < 32 := (idx t).2.2.2.2.2.2.2.2.2.2.2
  idx_vars y
  have e : ((cfg0.win 9).blk t).view.emb (ix2 y0 y1) = (ix2 ⟨t.val * 512 + y0.val, by omega⟩ y1 : S16384x1024.Idx) := by
    blk_ext [idx t]
  rw [e]
  frame_out
  unfold k0_pay24 k0_pay25 k0_pay26 k0_pay27
  simp (disch := decide) only [View.ld_unit_lit']
  exact x1_eq m c t y0 y1 _ rfl

theorem finalX (c : Dev nD) : (dats m 0 c).arrAt 9 (cfgs 0).N
      = Cert.OutProjRefIdeal.Read.val_main_v31 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  refine (dats m 0 c).arrAt_eq_of_covers 9 _ (by decide +kernel) fun t hf y => ?_
  blk_simp
  rw [after0_9]
  exact pointX m c t y

end Cert.OutProjIdeal.KerValue

end
-- ==== Proof.Finite.lean ====
module

public import proofs.«01_k».proof.Proof.Norm

@[expose] public section

noncomputable section

open Idealize.ShloMosaic

namespace Cert.Norm

/-- A value that is a real number. -/
def IsReal (x : EReal) : Prop := ∃ a : ℝ, x = (a : EReal)

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem sum_reals {n : ℕ} (f : Fin n → ℝ) : (∑ k, ((f k : ℝ) : EReal)) = ((∑ k, f k : ℝ) : EReal) :=
  (map_sum (⟨⟨Real.toEReal, EReal.coe_zero⟩, EReal.coe_add⟩ : ℝ →+ EReal) _ _).symm

theorem IsReal.sum {n : ℕ} {f : Fin n → EReal} (h : ∀ k, IsReal (f k)) : IsReal (∑ k, f k) := by
  choose a ha using h
  exact ⟨∑ k, a k, by simp only [ha]; exact sum_reals a⟩

theorem width : Ideal.ofBits .f32 0x44800000#32 = ((1024 : ℝ) : EReal) := by
  simp [Ideal.ofBits, Ideal.ieee, -EReal.coe_mul]; norm_num

theorem epsilon : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

theorem scale : IsReal (Ideal.ofBits .f32 0x3FD744FD#32) := by
  refine ⟨14107901 * (2 : ℝ) ^ (-23 : ℤ), ?_⟩
  simp [Ideal.ofBits, Ideal.ieee, -EReal.coe_mul]

theorem mean_real {u : Fin 1024 → EReal} (h : ∀ k, IsReal (u k)) : IsReal (mean u) := by
  obtain ⟨a, ha⟩ := IsReal.sum h
  unfold mean
  rw [ha, width, Ideal.div_coe (by norm_num), ← EReal.coe_mul]
  exact ⟨_, rfl⟩

/-- The layer norm of a real row is real: its variance is not negative. -/
theorem lnorm_real {u : Fin 1024 → EReal} {g b : EReal} (h : ∀ k, IsReal (u k)) (hg : IsReal g) (hb : IsReal b) (l : Fin 1024) :
    IsReal (lnorm u g b l) := by
  have hd : ∀ k, IsReal (u k - mean u) := fun k => (h k).sub (mean_real h)
  choose d hd' using hd
  obtain ⟨e, he, he'⟩ := epsilon
  have hv : 0 ≤ ∑ k, d k * d k := Finset.sum_nonneg fun k _ => mul_self_nonneg _
  have hr : IsReal (Ideal.rsqrt (Ideal.div (∑ k, (u k - mean u) * (u k - mean u)) (Ideal.ofBits .f32 0x44800000#32)
    + Ideal.ofBits .f32 0x3727C5AC#32)) := by
    simp only [hd', ← EReal.coe_mul]
    rw [sum_reals, width, he', Ideal.div_coe (by norm_num), ← EReal.coe_mul, ← EReal.coe_add, Ideal.rsqrt_coe]
    have hp : 0 < (∑ k, d k * d k) * (1 / 1024) + e := by positivity
    rw [if_neg (not_lt.mpr hp.le), if_neg hp.ne']
    exact ⟨_, rfl⟩
  unfold lnorm
  exact ((((h l).sub (mean_real h)).mul hr).mul hg).add hb

end Cert.Norm

end
-- ==== Proof.OutCombine.lean ====
module

public import proofs.«01_k».proof.Proof.OutRoute
public import proofs.«01_k».proof.Proof.RefRoute
public import proofs.«01_k».proof.Proof.OutValue
public import proofs.«01_k».proof.Proof.Finite

@[expose] public section

set_option maxRecDepth 16384
noncomputable section

open Idealize.ShloMosaic Idealize.ShloMosaic.TcCoe Idealize.SL.Sem
open Idealize.ShloMosaic.Pipeline (Dat)

namespace Cert.OutProjIdeal.KerValue

open Cert.OutProjIdeal Cert.OutProjIdeal.Gen Cert.Norm Cert.Route
open Cert.OutProjRefIdeal.RefValue (heads row ref_apply)

variable (m : (ℓ : Loc nD τ sig) → Buf (Elt Ideal) ℓ)

/-- What the router's padded weight operand holds when the call starts. -/
theorem entryW (c : Dev nD) : V m c main_v3
    = (pad S1024x128 ![0, 0] ![0, 108] ![0, 0]
        (concatenate S1024x20 1 [⟨S1024x4, (m ((c : Thread nD τ).loc main_arg7) : FVec Ideal S1024x4 .f32)⟩,
          ⟨S1024x16, (shapeCast S1024x16 (transpose S1024x4x4 [1, 0, 2] (m ((c : Thread nD τ).loc main_arg9) : FVec Ideal S4x1024x4 .f32) transposes_S4x1024x4_S1024x4x4_1_0_2)
            shapeCasts_S1024x4x4_S1024x16 : FVec Ideal S1024x16 .f32)⟩] concatenates_S1024x4_S1024x16_S1024x20_d1 : FVec Ideal S1024x20 .f32)
        (sitofp .f32 (constantI S_ 32 0#32)) pads_S1024x20_S1024x128_000_01080 h_S_ : FVec Ideal S1024x128 .f32) := by
  unfold V
  simp only [hostOps0, hostOps0_1, hostOps0_2, hostOps0_3, hostOps0_4, List.flatten_cons, List.flatten_nil, List.append_nil, List.cons_append, List.nil_append]
  after_results <;> rfl

theorem entryB (c : Dev nD) : V m c main_v7
    = (pad S1x128 ![0, 0] ![0, 108] ![0, 0]
        (shapeCast S1x20 (concatenate S20 0 [⟨S4, (m ((c : Thread nD τ).loc main_arg8) : FVec Ideal S4 .f32)⟩,
          ⟨S16, (shapeCast S16 (m ((c : Thread nD τ).loc main_arg10) : FVec Ideal S4x4 .f32)
            shapeCasts_S4x4_S16 : FVec Ideal S16 .f32)⟩] concatenates_S4_S16_S20_d0 : FVec Ideal S20 .f32) shapeCasts_S20_S1x20)
        (sitofp .f32 (constantI S_ 32 0#32)) pads_S1x20_S1x128_000_01080 h_S_ : FVec Ideal S1x128 .f32) := by
  unfold V
  simp only [hostOps0, hostOps0_1, hostOps0_2, hostOps0_3, hostOps0_4, List.flatten_cons, List.flatten_nil, List.append_nil, List.cons_append, List.nil_append]
  after_results <;> rfl

theorem group_col (c : Dev nD) (t : Fin cfg0.N) (k : Fin 1024) (g : Fin 4) :
    (show FVec Ideal S1024x128 .f32 from iblk m c 7 t) (ix2 k (glane g))
      = (m ((c : Thread nD τ).loc main_arg7) : FVec Ideal S1024x4 .f32) (ix2 k g) := by
  have e : ((cfg0.win 7).blk t).view.emb (ix2 k (glane g)) = (ix2 k (glane g) : S1024x128.Idx) := by blk_ext [idx t]
  show V m c main_v3 (((cfg0.win 7).blk t).view.emb (ix2 k (glane g))) = _
  rw [e, entryW]
  pointwise
  rw [dif_pos (by simp only [glane]; omega), dif_pos (show (glane g).val < 4 from g.isLt)]
  rfl

theorem expert_col (c : Dev nD) (t : Fin cfg0.N) (k : Fin 1024) (g e : Fin 4) :
    (show FVec Ideal S1024x128 .f32 from iblk m c 7 t) (ix2 k (elane g e))
      = (m ((c : Thread nD τ).loc main_arg9) : FVec Ideal S4x1024x4 .f32) (ix3 g k e) := by
  have h : ((cfg0.win 7).blk t).view.emb (ix2 k (elane g e)) = (ix2 k (elane g e) : S1024x128.Idx) := by blk_ext [idx t]
  show V m c main_v3 (((cfg0.win 7).blk t).view.emb (ix2 k (elane g e))) = _
  rw [h, entryW]
  pointwise
  rw [dif_pos (by simp only [elane]; omega), dif_neg (by simp only [elane]; omega)]
  refine congrArg _ (congrArg₂ (fun a b : Fin 4 => (ix3 a k b : S4x1024x4.Idx)) (Fin.ext ?_) (Fin.ext ?_)) <;> simp only [elane] <;> omega

theorem group_off (c : Dev nD) (t : Fin cfg0.N) (g : Fin 4) :
    (show FVec Ideal S1x128 .f32 from iblk m c 8 t) (ix2 0 (glane g))
      = (m ((c : Thread nD τ).loc main_arg8) : FVec Ideal S4 .f32) (ix1 g) := by
  have e : ((cfg0.win 8).blk t).view.emb (ix2 0 (glane g)) = (ix2 0 (glane g) : S1x128.Idx) := by blk_ext [idx t]
  show V m c main_v7 (((cfg0.win 8).blk t).view.emb (ix2 0 (glane g))) = _
  rw [e, entryB]
  pointwise
  rw [dif_pos (by simp only [glane]; omega), dif_pos (show (glane g).val < 4 from g.isLt)]
  rfl

theorem expert_off (c : Dev nD) (t : Fin cfg0.N) (g e : Fin 4) :
    (show FVec Ideal S1x128 .f32 from iblk m c 8 t) (ix2 0 (elane g e))
      = (m ((c : Thread nD τ).loc main_arg10) : FVec Ideal S4x4 .f32) (ix2 g e) := by
  have h : ((cfg0.win 8).blk t).view.emb (ix2 0 (elane g e)) = (ix2 0 (elane g e) : S1x128.Idx) := by blk_ext [idx t]
  show V m c main_v7 (((cfg0.win 8).blk t).view.emb (ix2 0 (elane g e))) = _
  rw [h, entryB]
  pointwise
  rw [dif_pos (by simp only [elane]; omega), dif_neg (by simp only [elane]; omega)]
  refine congrArg _ (congrArg₂ (fun a b : Fin 4 => (ix2 a b : S4x4.Idx)) (Fin.ext ?_) (Fin.ext ?_)) <;> simp only [elane] <;> omega

/-! ## The call's combine weights -/

/-! The call's arguments. -/
abbrev A0 (c : Dev nD) : FVec Ideal S16384x1024 .f32 := m ((c : Thread nD τ).loc main_arg0)
abbrev A1 (c : Dev nD) : FVec Ideal S16384x512 .bf16 := m ((c : Thread nD τ).loc main_arg1)
abbrev A2 (c : Dev nD) : FVec Ideal S16384x256 .bf16 := m ((c : Thread nD τ).loc main_arg2)
abbrev A3 (c : Dev nD) : FVec Ideal S16384x256 .bf16 := m ((c : Thread nD τ).loc main_arg3)
abbrev A4 (c : Dev nD) : FVec Ideal S1024x1024 .f32 := m ((c : Thread nD τ).loc main_arg4)
abbrev A5 (c : Dev nD) : FVec Ideal S1024 .f32 := m ((c : Thread nD τ).loc main_arg5)
abbrev A6 (c : Dev nD) : FVec Ideal S1024 .f32 := m ((c : Thread nD τ).loc main_arg6)
abbrev A7 (c : Dev nD) : FVec Ideal S1024x4 .f32 := m ((c : Thread nD τ).loc main_arg7)
abbrev A8 (c : Dev nD) : FVec Ideal S4 .f32 := m ((c : Thread nD τ).loc main_arg8)
abbrev A9 (c : Dev nD) : FVec Ideal S4x1024x4 .f32 := m ((c : Thread nD τ).loc main_arg9)
abbrev A10 (c : Dev nD) : FVec Ideal S4x4 .f32 := m ((c : Thread nD τ).loc main_arg10)

/-- Every argument is real. -/
structure Reals (c : Dev nD) : Prop where
  h0 : ∀ i, IsReal (A0 m c i)
  h1 : ∀ i, IsReal (A1 m c i)
  h2 : ∀ i, IsReal (A2 m c i)
  h3 : ∀ i, IsReal (A3 m c i)
  h4 : ∀ i, IsReal (A4 m c i)
  h5 : ∀ i, IsReal (A5 m c i)
  h6 : ∀ i, IsReal (A6 m c i)
  h7 : ∀ i, IsReal (A7 m c i)
  h8 : ∀ i, IsReal (A8 m c i)
  h9 : ∀ i, IsReal (A9 m c i)
  h10 : ∀ i, IsReal (A10 m c i)

open Cert.OutProjRefIdeal.Read (val_main_v31 val_main_v35 val_main_v50 val_main_v80)

theorem x1_real {c : Dev nD} (h : Reals m c) (R : Fin 16384) (l : Fin 1024) :
    IsReal (val_main_v31 (F := Ideal) (A0 m c) (A1 m c) (A2 m c) (A3 m c) (A4 m c) (A5 m c) (A6 m c) (ix2 R l)) := by
  rw [ref_apply]
  refine lnorm_real (fun k => ?_) (h.h5 _) (h.h6 _) l
  unfold row
  refine (scale.mul (h.h0 _)).add (IsReal.sum fun q => IsReal.mul ?_ (h.h4 _))
  unfold heads
  split
  · exact h.h1 _
  · split
    · exact h.h2 _
    · exact h.h3 _

theorem group_real {c : Dev nD} (h : Reals m c) (R : Fin 16384) (g : Fin 4) :
    IsReal (val_main_v35 (F := Ideal) (A0 m c) (A1 m c) (A2 m c) (A3 m c) (A4 m c) (A5 m c) (A6 m c) (A7 m c) (A8 m c) (ix2 R g)) := by
  rw [Cert.OutProjRefIdeal.RefValue.group_logit]
  exact (IsReal.sum fun q => (x1_real m h R q).mul (h.h7 _)).add (h.h8 _)

theorem expert_real {c : Dev nD} (h : Reals m c) (R : Fin 16384) (g e : Fin 4) :
    IsReal (val_main_v50 (F := Ideal) (A0 m c) (A1 m c) (A2 m c) (A3 m c) (A4 m c) (A5 m c) (A6 m c) (A9 m c) (A10 m c) (ix3 R g e)) := by
  rw [Cert.OutProjRefIdeal.RefValue.expert_logit]
  exact (IsReal.sum fun q => (x1_real m h R q).mul (h.h9 _)).add (h.h10 _)

/-- A block's router logits. -/
abbrev logits (c : Dev nD) (t : Fin cfg0.N) : FVec Ideal S512x128 .f32 :=
  k0_pay7 (F := Ideal) (k0_pay2 (iblk m c 5 t)) (k0_pay3 (iblk m c 6 t))
      (k0_pay4 (iblk m c 1 t) (View.ld (iblk m c 4 t) r0_1) (iblk m c 2 t) (View.ld (iblk m c 4 t) r0_3)
        (iblk m c 3 t) (View.ld (iblk m c 4 t) r0_4) (iblk m c 0 t))
      (k0_pay5 (iblk m c 1 t) (View.ld (iblk m c 4 t) r0_1) (iblk m c 2 t) (View.ld (iblk m c 4 t) r0_3)
        (iblk m c 3 t) (View.ld (iblk m c 4 t) r0_4) (iblk m c 0 t)) (iblk m c 7 t) (iblk m c 8 t)

theorem group_eq (c : Dev nD) (t : Fin cfg0.N) (r : Fin 512) (R : Fin 16384) (hR : R.val = t.val * 512 + r.val) (g : Fin 4) :
    logits m c t (ix2 r (glane g))
      = val_main_v35 (F := Ideal) (A0 m c) (A1 m c) (A2 m c) (A3 m c) (A4 m c) (A5 m c) (A6 m c) (A7 m c) (A8 m c) (ix2 R g) := by
  refine (pay7_apply _ _ _ _ _ _ r (glane g)).trans ?_
  rw [Cert.OutProjRefIdeal.RefValue.group_logit]
  exact Ideal.add_congr (Finset.sum_congr rfl fun k _ => Ideal.mul_congr (x1_eq m c t r k R hR) (group_col m c t k g)) (group_off m c t g)

theorem expert_eq (c : Dev nD) (t : Fin cfg0.N) (r : Fin 512) (R : Fin 16384) (hR : R.val = t.val * 512 + r.val) (g e : Fin 4) :
    logits m c t (ix2 r (elane g e))
      = val_main_v50 (F := Ideal) (A0 m c) (A1 m c) (A2 m c) (A3 m c) (A4 m c) (A5 m c) (A6 m c) (A9 m c) (A10 m c) (ix3 R g e) := by
  refine (pay7_apply _ _ _ _ _ _ r (elane g e)).trans ?_
  rw [Cert.OutProjRefIdeal.RefValue.expert_logit]
  exact Ideal.add_congr (Finset.sum_congr rfl fun k _ => Ideal.mul_congr (x1_eq m c t r k R hR) (expert_col m c t k g e)) (expert_off m c t g e)

theorem pointC {c : Dev nD} (h : Reals m c) (t : Fin cfg0.N) (y : S512x128.Idx) :
    out0_10 (iblk m c 0 t) (iblk m c 1 t) (iblk m c 2 t) (iblk m c 3 t) (iblk m c 4 t) (iblk m c 5 t) (iblk m c 6 t) (iblk m c 7 t) (iblk m c 8 t) y
      = val_main_v80 (F := Ideal) (A0 m c) (A1 m c) (A2 m c) (A3 m c) (A4 m c) (A5 m c) (A6 m c) (A7 m c) (A8 m c) (A9 m c) (A10 m c)
          (((cfg0.win 10).blk t).view.emb y) := by
  have ht : t.val < 32 := (idx t).2.2.2.2.2.2.2.2.2.2.2
  idx_vars y
  have e : ((cfg0.win 10).blk t).view.emb (ix2 y0 y1) = (ix2 ⟨t.val * 512 + y0.val, by omega⟩ y1 : S16384x128.Idx) := by
    blk_ext [idx t]
  rw [e]
  generalize hR : (⟨t.val * 512 + y0.val, by omega⟩ : Fin 16384) = R
  have hR' : R.val = t.val * 512 + y0.val := by rw [← hR]
  choose p hp using group_real m h R
  choose q hq using expert_real m h R
  have hp' : ∀ g, logits m c t (ix2 y0 (glane g)) = (p g : EReal) := fun g => (group_eq m c t y0 R hR' g).trans (hp g)
  have hq' : ∀ g e, logits m c t (ix2 y0 (elane g e)) = (q g e : EReal) := fun g e => (expert_eq m c t y0 R hR' g e).trans (hq g e)
  have H := sorted_first fun k => (p k : EReal)
  have H' := sorted_second fun k => (p k : EReal)
  have H₁ := sorted_first fun e => (q (sortedFrom (gt fun k => (p k : EReal)) 0) e : EReal)
  have H₂ := sorted_second fun e => (q (sortedFrom (gt fun k => (p k : EReal)) 0) e : EReal)
  refine Eq.trans ?_ (Cert.OutProjRefIdeal.RefValue.route hp hq H ⟨_, H'⟩ H₁ H₂ y1).symm
  frame_out
  unfold k0_pay33 k0_pay32 k0_pay31 k0_pay30 k0_pay29 k0_pay28 k0_pay27 k0_pay26 k0_pay25 k0_pay24
  simp (disch := decide) only [View.ld_unit_lit']
  exact route (group_index hp' H) (group_weight hp' H) (hq' _) H₁ H₂ y1

theorem finalC {c : Dev nD} (h : Reals m c) : (dats m 0 c).arrAt 10 (cfgs 0).N
      = val_main_v80 (F := Ideal) (A0 m c) (A1 m c) (A2 m c) (A3 m c) (A4 m c) (A5 m c) (A6 m c) (A7 m c) (A8 m c) (A9 m c) (A10 m c) := by
  refine (dats m 0 c).arrAt_eq_of_covers 10 _ (by decide +kernel) fun t hf y => ?_
  blk_simp
  rw [after0_10]
  exact pointC m h t y

end Cert.OutProjIdeal.KerValue

end
-- ==== Proof.PrepKer.lean ====
module

public import proofs.«01_k».proof.Proof.Gen.PrepIdeal.Value
public import Idealize.ShloMosaic.Lib.Pipeline.ValueKit

@[expose] public section

set_option maxRecDepth 16384

noncomputable section

open Idealize.ShloMosaic Idealize.ShloMosaic.TcCoe Idealize.SL.Sem

namespace Cert.PrepIdeal.KerValue

open Cert.PrepIdeal Cert.PrepIdeal.Gen

/-- A row over its root mean square, times a gain: `w` is the width's constant. -/
def rms {n : ℕ} (w : EReal) (u g : Fin n → EReal) (k : Fin n) : EReal :=
  u k * Ideal.rsqrt (Ideal.div (∑ i, u i * u i) w + Ideal.ofBits .f32 0x358637BD#32) * g k

/-- A head's 128 lanes turned by the tables: lane `j` takes its partner from 16 lanes on before lane 80 and 16 lanes back from there. -/
def turn (t c s : Fin 128 → EReal) (j : Fin 128) : EReal :=
  t j * c j + (if j.val < 80 then t ⟨(j.val + 128 - 112) % 128, by omega⟩ else t ⟨(j.val + 128 - 16) % 128, by omega⟩) * s j

theorem pay7_apply (x : FVec Ideal S512x512 .f32) (g : FVec Ideal S1x256 .f32) (w : FVec Ideal S256x1024 .bf16) (r : Fin 512) (l : Fin 1024) :
    k0_pay7 (F := Ideal) x g w (ix2 r l)
      = ∑ k : Fin 256, rms (Ideal.ofBits .f32 0x43800000#32) (fun i => x (ix2 r ⟨i.val, by omega⟩)) (fun i => g (ix2 0 i)) k * w (ix2 k l) := by
  unfold rms
  pointwise [k0_pay7]

theorem pay6_apply (x : FVec Ideal S512x512 .f32) (g : FVec Ideal S1x128 .f32) (r : Fin 512) (l : Fin 128) :
    k0_pay6 (F := Ideal) x g (ix2 r l)
      = rms (Ideal.ofBits .f32 0x43000000#32) (fun i => x (ix2 r ⟨256 + i.val, by omega⟩)) (fun i => g (ix2 0 i)) l := by
  unfold rms
  pointwise [k0_pay6]

theorem pay8_apply (x : FVec Ideal S512x512 .f32) (g : FVec Ideal S1x128 .f32) (w : FVec Ideal S128x1024 .bf16) (r : Fin 512) (l : Fin 1024) :
    k0_pay8 (F := Ideal) x g w (ix2 r l) = ∑ k : Fin 128, k0_pay6 (F := Ideal) x g (ix2 r k) * w (ix2 k l) := by
  unfold k0_pay8
  generalize k0_pay6 (F := Ideal) x g = y
  pointwise

theorem pay9_apply (y : FVec Ideal S512x128 .bf16) (w : FVec Ideal S128x512 .bf16) (r : Fin 512) (l : Fin 512) :
    k0_pay9 (F := Ideal) y w (ix2 r l) = ∑ k : Fin 128, y (ix2 r k) * w (ix2 k l) := by
  pointwise [k0_pay9]

theorem first (r : Fin 512) (j : Fin 128) : k0_pay12 (ix2 r j) = if j.val < 80 then 1#1 else 0#1 := by
  pointwise [k0_pay12]
  exact (by decide : ∀ j : Fin 128, IntOp.cmpi .slt (BitVec.ofNat 32 j.val) 80#32 = if j.val < 80 then 1#1 else 0#1) j

/-- The partner's choice by the lane mask. -/
theorem partner (r : Fin 512) (j : Fin 128) (a b : EReal) : Scalar.select (k0_pay12 (ix2 r j)) a b = if j.val < 80 then a else b := by
  rw [first]
  split <;> rfl

theorem pay13_apply (t c s : FVec Ideal S512x128 .f32) (r : Fin 512) (j : Fin 128) :
    k0_pay13 (F := Ideal) t c s (ix2 r j) = turn (fun j => t (ix2 r j)) (fun j => c (ix2 r j)) (fun j => s (ix2 r j)) j := by
  unfold turn
  pointwise [k0_pay13, k0_pay10, k0_pay11]
  rw [partner]

/-- A head's turned and scaled queries; `o` is where its lanes begin. -/
def head (v : FVec Ideal S512x1024 .f32) (c s : FVec Ideal S512x128 .f32) (o : ℕ) (h : o + 128 ≤ 1024) (r : Fin 512) (j : Fin 128) : EReal :=
  turn (fun j => v (ix2 r ⟨o + j.val, by omega⟩)) (fun j => c (ix2 r j)) (fun j => s (ix2 r j)) j * Ideal.ofBits .f32 0x3DD105EC#32

section heads

variable (v : FVec Ideal S512x1024 .f32) (c s : FVec Ideal S512x128 .f32) (r : Fin 512) (j : Fin 128)

theorem pay14_apply : k0_pay14 (F := Ideal) v c s (ix2 r j) = head v c s 0 (by omega) r j := by
  unfold head turn
  pointwise [k0_pay14, k0_pay10, k0_pay11]
  rw [partner]

theorem pay18_apply : k0_pay18 (F := Ideal) (k0_pay10 c) (k0_pay11 s) (k0_pay16 v) (k0_pay17 v) (ix2 r j) = head v c s 128 (by omega) r j := by
  unfold head turn
  pointwise [k0_pay18, k0_pay16, k0_pay17, k0_pay10, k0_pay11]
  rw [partner]

theorem pay20_apply : k0_pay20 (F := Ideal) v (k0_pay10 c) (k0_pay11 s) k0_pay12 (ix2 r j) = head v c s 256 (by omega) r j := by
  unfold head turn
  pointwise [k0_pay20, k0_pay10, k0_pay11]
  rw [partner]

theorem pay22_apply : k0_pay22 (F := Ideal) v (k0_pay10 c) (k0_pay11 s) k0_pay12 (ix2 r j) = head v c s 384 (by omega) r j := by
  unfold head turn
  pointwise [k0_pay22, k0_pay10, k0_pay11]
  rw [partner]

theorem pay25_apply : k0_pay25 (F := Ideal) v (k0_pay10 c) (k0_pay11 s) k0_pay12 (ix2 r j) = head v c s 512 (by omega) r j := by
  unfold head turn
  pointwise [k0_pay25, k0_pay10, k0_pay11]
  rw [partner]

theorem pay27_apply : k0_pay27 (F := Ideal) v (k0_pay10 c) (k0_pay11 s) k0_pay12 (ix2 r j) = head v c s 640 (by omega) r j := by
  unfold head turn
  pointwise [k0_pay27, k0_pay10, k0_pay11]
  rw [partner]

theorem pay1_apply : k0_pay1 (F := Ideal) (k0_pay10 c) (k0_pay11 s) (k0_pay29 v) (k0_pay30 v k0_pay12) (ix2 r j) = head v c s 768 (by omega) r j := by
  unfold head turn
  pointwise [k0_pay1, k0_pay29, k0_pay30, k0_pay10, k0_pay11]
  rw [partner]

theorem pay3_apply : k0_pay3 (F := Ideal) v (k0_pay10 c) (k0_pay11 s) k0_pay12 (ix2 r j) = head v c s 896 (by omega) r j := by
  unfold head turn
  pointwise [k0_pay3, k0_pay10, k0_pay11]
  rw [partner]

end heads

/-- The query block by its index: the head its lane is in, and the lane within the head. -/
def queries (v : FVec Ideal S512x1024 .f32) (c s : FVec Ideal S512x128 .f32) (y : S512x1024.Idx) : EReal :=
  head v c s ((y 1).val / 128 * 128) (by have h : (y 1).val < 1024 := (y 1).isLt; omega) (y 0) ⟨(y 1).val % 128, by omega⟩

theorem queries_at (v : FVec Ideal S512x1024 .f32) (c s : FVec Ideal S512x128 .f32) (y : S512x1024.Idx) (o : ℕ) (h : o + 128 ≤ 1024)
    (r : Fin 512) (j : Fin 128) (h8 : o % 128 = 0) (hr : (y 0).val = r.val) (hj : (y 1).val = o + j.val) :
    queries v c s y = head v c s o h r j := by
  have e1 : (y 1).val / 128 * 128 = o := by omega
  have e2 : (⟨(y 1).val % 128, by omega⟩ : Fin 128) = j := Fin.ext (by show (y 1).val % 128 = j.val; omega)
  have e0 : y 0 = r := Fin.ext hr
  unfold queries
  rw [e2, e0]
  simp only [e1]

/-- The eight pieces of the query block are one function of the block's index. -/
theorem canonQ (v : FVec Ideal S512x1024 .f32) (c s : FVec Ideal S512x128 .f32) (y : S512x1024.Idx) :
    View.canon ([⟨r0_14, k0_pay3 (F := Ideal) v (k0_pay10 c) (k0_pay11 s) k0_pay12⟩,
      ⟨r0_13, k0_pay1 (k0_pay10 c) (k0_pay11 s) (k0_pay29 v) (k0_pay30 v k0_pay12)⟩,
      ⟨r0_12, k0_pay27 v (k0_pay10 c) (k0_pay11 s) k0_pay12⟩, ⟨r0_11, k0_pay25 v (k0_pay10 c) (k0_pay11 s) k0_pay12⟩,
      ⟨r0_10, k0_pay22 v (k0_pay10 c) (k0_pay11 s) k0_pay12⟩, ⟨r0_9, k0_pay20 v (k0_pay10 c) (k0_pay11 s) k0_pay12⟩,
      ⟨r0_8, k0_pay18 (k0_pay10 c) (k0_pay11 s) (k0_pay16 v) (k0_pay17 v)⟩, ⟨r0_7, k0_pay14 v c s⟩]
        : List (View.Piece (Elt Ideal) S512x1024 .bf16)) y = queries v c s y := by
  refine View.canon_apply_of_pieces (Val := Elt Ideal) (e := .bf16) (show S512x1024.Idx → Elt Ideal .bf16 from queries v c s) _ ?_ y (cover0_8 _ _ _ _ _ _ _ _ y)
  have key : ∀ (p : FVec Ideal S512x128 .bf16) (o : ℕ) (h : o + 128 ≤ 1024) (h8 : o % 128 = 0) (e : S512x128.Idx → S512x1024.Idx)
      (e0 : ∀ x, (e x 0).val = (x 0).val) (e1 : ∀ x, (e x 1).val = o + (x 1).val)
      (hp : ∀ r j, p (ix2 r j) = head v c s o h r j) (x : S512x128.Idx), p x = queries v c s (e x) := by
    intro p o h h8 e e0 e1 hp x
    have a : x = ix2 (x 0) (x 1) := funext fun a => by match a with | ⟨0, _⟩ => rfl | ⟨1, _⟩ => rfl
    exact (congrArg p a).trans ((hp (x 0) (x 1)).trans (queries_at v c s (e x) o h (x 0) (x 1) h8 (e0 x) (e1 x)).symm)
  have z : ∀ n : ℕ, 0 + 1 * n = n := fun n => by omega
  have u : ∀ o n : ℕ, o + 1 * n = o + n := fun o n => by omega
  intro pc hpc
  rcases List.mem_cons.mp hpc with rfl | hpc
  · exact key _ 896 (by omega) (by omega) _ (fun x => z _) (fun x => u _ _) (pay3_apply v c s)
  rcases List.mem_cons.mp hpc with rfl | hpc
  · exact key _ 768 (by omega) (by omega) _ (fun x => z _) (fun x => u _ _) (pay1_apply v c s)
  rcases List.mem_cons.mp hpc with rfl | hpc
  · exact key _ 640 (by omega) (by omega) _ (fun x => z _) (fun x => u _ _) (pay27_apply v c s)
  rcases List.mem_cons.mp hpc with rfl | hpc
  · exact key _ 512 (by omega) (by omega) _ (fun x => z _) (fun x => u _ _) (pay25_apply v c s)
  rcases List.mem_cons.mp hpc with rfl | hpc
  · exact key _ 384 (by omega) (by omega) _ (fun x => z _) (fun x => u _ _) (pay22_apply v c s)
  rcases List.mem_cons.mp hpc with rfl | hpc
  · exact key _ 256 (by omega) (by omega) _ (fun x => z _) (fun x => u _ _) (pay20_apply v c s)
  rcases List.mem_cons.mp hpc with rfl | hpc
  · exact key _ 128 (by omega) (by omega) _ (fun x => z _) (fun x => u _ _) (pay18_apply v c s)
  rcases List.mem_cons.mp hpc with rfl | hpc
  · exact key _ 0 (by omega) (by omega) _ (fun x => z _) (fun x => u _ _) (pay14_apply v c s)
  exact absurd hpc (List.not_mem_nil)

end Cert.PrepIdeal.KerValue

end
-- ==== Proof.RefPrep.lean ====
module

public import proofs.«01_k».proof.Proof.Gen.PrepRefIdeal.Read
public import proofs.«01_k».proof.Proof.PrepKer
public import Idealize.ShloMosaic.Lib.Pipeline.ValueKit

@[expose] public section

set_option maxRecDepth 16384

noncomputable section

open Idealize.ShloMosaic Idealize.ShloMosaic.TcCoe Idealize.SL.Sem

namespace Cert.PrepRefIdeal.RefValue

open Cert.PrepRefIdeal Cert.PrepRefIdeal.Gen Cert.PrepRefIdeal.Read
open Cert.PrepIdeal.KerValue (rms)

variable (x0 : FVec Ideal S16384x512 .f32) (x1 : IVec S8x2048 32) (x2 : FVec Ideal S256 .f32) (x3 : FVec Ideal S128 .f32)
  (x4 : FVec Ideal S256x768 .f32) (x5 : FVec Ideal S128x1024 .f32) (r : Fin 16384)

theorem q_apply (l : Fin 768) : val_main_v32 (F := Ideal) x0 x2 x4 (ix2 r l)
    = ∑ k : Fin 256, rms (Ideal.ofBits .f32 0x43800000#32) (fun i => x0 (ix2 r ⟨i.val, by omega⟩)) (fun i => x2 (ix1 i)) k * x4 (ix2 k l) := by
  unfold rms
  pointwise [val_main_v32, val_main_v31, val_main_v30, val_main_v29, val_main_v28, val_main_v27, val_main_v26, val_main_v25, val_main_v24, val_main_v23,
    val_main_v22, val_main_v21, val_main_v20, val_main_v19, val_main_v18, val_main_cst_3, val_main_cst_4, val_main_cst_5]

theorem kv_apply (l : Fin 1024) : val_main_v48 (F := Ideal) x0 x3 x5 (ix2 r l)
    = ∑ k : Fin 128, rms (Ideal.ofBits .f32 0x43000000#32) (fun i => x0 (ix2 r ⟨256 + i.val, by omega⟩)) (fun i => x3 (ix1 i)) k * x5 (ix2 k l) := by
  unfold rms
  pointwise [val_main_v48, val_main_v47, val_main_v46, val_main_v45, val_main_v44, val_main_v43, val_main_v42, val_main_v41, val_main_v40, val_main_v39,
    val_main_v38, val_main_v37, val_main_v36, val_main_v35, val_main_v34, val_main_cst_6, val_main_cst_7, val_main_cst_8]

theorem v93_apply (l : Fin 512) : val_main_v93 (F := Ideal) x0 x3 x5 (ix2 r l)
    = val_main_v48 (F := Ideal) x0 x3 x5 (ix2 r ⟨l.val / 64 * 128 + (64 + l.val % 64), by omega⟩) := by
  unfold val_main_v93 val_main_v92 val_main_v91 val_main_v49
  generalize val_main_v48 (F := Ideal) x0 x3 x5 = y
  pointwise

theorem v87_apply (l : Fin 1024) : val_main_v87 (F := Ideal) x0 x1 x2 x4 (ix2 r l)
    = if h : l.val % 128 < 96 then
        (if h1 : l.val % 128 < 64 then val_main_v32 (F := Ideal) x0 x2 x4 (ix2 r ⟨l.val / 128 * 96 + l.val % 128, by omega⟩)
        else if h2 : l.val % 128 - 64 < 16 then
          val_main_v32 (F := Ideal) x0 x2 x4 (ix2 r ⟨l.val / 128 * 96 + (64 + (l.val % 128 - 64)), by omega⟩) * val_main_v16 (F := Ideal) x1 (ix2 r ⟨l.val % 128 - 64, h2⟩)
            - val_main_v32 (F := Ideal) x0 x2 x4 (ix2 r ⟨l.val / 128 * 96 + (64 + (16 + (l.val % 128 - 64))), by omega⟩) * val_main_v17 (F := Ideal) x1 (ix2 r ⟨l.val % 128 - 64, h2⟩)
        else
          val_main_v32 (F := Ideal) x0 x2 x4 (ix2 r ⟨l.val / 128 * 96 + (64 + (16 + (l.val % 128 - 64 - 16))), by omega⟩) * val_main_v16 (F := Ideal) x1 (ix2 r ⟨l.val % 128 - 64 - 16, by omega⟩)
            + val_main_v32 (F := Ideal) x0 x2 x4 (ix2 r ⟨l.val / 128 * 96 + (64 + (l.val % 128 - 64 - 16)), by omega⟩) * val_main_v17 (F := Ideal) x1 (ix2 r ⟨l.val % 128 - 64 - 16, by omega⟩))
          * Ideal.ofBits .f32 0x3DD105EC#32
      else 0 := by
  unfold val_main_v87 val_main_v86 val_main_v85 val_main_v84 val_main_v69 val_main_v68 val_main_v67 val_main_v66 val_main_v65 val_main_v64 val_main_v63 val_main_v62 val_main_v61
    val_main_v60 val_main_v59 val_main_v58 val_main_v57 val_main_v56 val_main_v55 val_main_v54 val_main_v53 val_main_v52 val_main_v51 val_main_v50 val_main_v33 val_main_cst_9 val_main_cst_10
  generalize val_main_v32 (F := Ideal) x0 x2 x4 = y
  generalize val_main_v16 (F := Ideal) x1 = c
  generalize val_main_v17 (F := Ideal) x1 = s
  pointwise

theorem v90_apply (l : Fin 1024) : val_main_v90 (F := Ideal) x0 x1 x3 x5 (ix2 r l)
    = if h : l.val % 128 < 96 then
        if h1 : l.val % 128 < 64 then val_main_v48 (F := Ideal) x0 x3 x5 (ix2 r l)
        else if h2 : l.val % 128 - 64 < 16 then
          x0 (ix2 r ⟨448 + (l.val % 128 - 64), by omega⟩) * val_main_v16 (F := Ideal) x1 (ix2 r ⟨l.val % 128 - 64, h2⟩)
            - x0 (ix2 r ⟨448 + (16 + (l.val % 128 - 64)), by omega⟩) * val_main_v17 (F := Ideal) x1 (ix2 r ⟨l.val % 128 - 64, h2⟩)
        else
          x0 (ix2 r ⟨448 + (16 + (l.val % 128 - 64 - 16)), by omega⟩) * val_main_v16 (F := Ideal) x1 (ix2 r ⟨l.val % 128 - 64 - 16, by omega⟩)
            + x0 (ix2 r ⟨448 + (l.val % 128 - 64 - 16), by omega⟩) * val_main_v17 (F := Ideal) x1 (ix2 r ⟨l.val % 128 - 64 - 16, by omega⟩)
      else 0 := by
  unfold val_main_v90 val_main_v89 val_main_v88 val_main_v84 val_main_v83 val_main_v82 val_main_v81 val_main_v80 val_main_v79 val_main_v78 val_main_v77 val_main_v76 val_main_v75 val_main_v74 val_main_v73
    val_main_v72 val_main_v71 val_main_v70 val_main_v49 val_main_cst_10
  generalize val_main_v48 (F := Ideal) x0 x3 x5 = y
  generalize val_main_v16 (F := Ideal) x1 = c
  generalize val_main_v17 (F := Ideal) x1 = s
  pointwise

end Cert.PrepRefIdeal.RefValue

end
-- ==== Proof.PrepValue.lean ====
module

public import proofs.«01_k».proof.Proof.PrepKer
public import proofs.«01_k».proof.Proof.RefPrep
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PrepIdeal.KerValue

open Cert.PrepIdeal Cert.PrepIdeal.Gen
open Cert.PrepRefIdeal.RefValue (q_apply kv_apply v93_apply v87_apply v90_apply)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0] ∧ t.val < 32 :=
  (by decide +kernel : ∀ t : Fin grid0.N, _)

abbrev arg0 (c : Dev nD) : FVec Ideal S16384x512 .f32 := m ((c : Thread nD τ).loc main_arg0)
abbrev arg1 (c : Dev nD) : IVec S8x2048 32 := m ((c : Thread nD τ).loc main_arg1)
abbrev arg2 (c : Dev nD) : FVec Ideal S256 .f32 := m ((c : Thread nD τ).loc main_arg2)
abbrev arg3 (c : Dev nD) : FVec Ideal S128 .f32 := m ((c : Thread nD τ).loc main_arg3)
abbrev arg4 (c : Dev nD) : FVec Ideal S256x768 .f32 := m ((c : Thread nD τ).loc main_arg4)
abbrev arg5 (c : Dev nD) : FVec Ideal S128x1024 .f32 := m ((c : Thread nD τ).loc main_arg5)

/-- The turn's cosines and sines, by row and frequency. -/
abbrev cosine (c : Dev nD) : FVec Ideal S16384x16 .f32 := Cert.PrepRefIdeal.Read.val_main_v16 (F := Ideal) (arg1 m c)
abbrev sine (c : Dev nD) : FVec Ideal S16384x16 .f32 := Cert.PrepRefIdeal.Read.val_main_v17 (F := Ideal) (arg1 m c)

theorem entryCos (c : Dev nD) : V m c main_v21
    = (concatenate S16384x128 1 [⟨S16384x64, (broadcastInDim S16384x64 ![] bcast_S_S16384x64 (constant S_ .f32 0x3F800000#32) : FVec Ideal S16384x64 .f32)⟩,
        ⟨S16384x16, cosine m c⟩, ⟨S16384x16, cosine m c⟩,
        ⟨S16384x32, (broadcastInDim S16384x32 ![] bcast_S_S16384x32 (constant S_ .f32 0x00000000#32) : FVec Ideal S16384x32 .f32)⟩]
        concatenates_S16384x64_S16384x16_S16384x16_S16384x32_S16384x128_d1 : FVec Ideal S16384x128 .f32) := by
  unfold V
  simp only [hostOps0, hostOps0_1, hostOps0_2, hostOps0_3, hostOps0_4, List.flatten_cons, List.flatten_nil, List.append_nil, List.cons_append, List.nil_append]
  after_results <;> rfl

theorem entrySin (c : Dev nD) : V m c main_v23
    = (concatenate S16384x128 1 [⟨S16384x64, (broadcastInDim S16384x64 ![] bcast_S_S16384x64 (constant S_ .f32 0x00000000#32) : FVec Ideal S16384x64 .f32)⟩,
        ⟨S16384x16, (Host.negf (sine m c) : FVec Ideal S16384x16 .f32)⟩, ⟨S16384x16, sine m c⟩,
        ⟨S16384x32, (broadcastInDim S16384x32 ![] bcast_S_S16384x32 (constant S_ .f32 0x00000000#32) : FVec Ideal S16384x32 .f32)⟩]
        concatenates_S16384x64_S16384x16_S16384x16_S16384x32_S16384x128_d1 : FVec Ideal S16384x128 .f32) := by
  unfold V
  simp only [hostOps0, hostOps0_1, hostOps0_2, hostOps0_3, hostOps0_4, List.flatten_cons, List.flatten_nil, List.append_nil, List.cons_append, List.nil_append]
  after_results <;> rfl

theorem entryQ (c : Dev nD) : V m c main_v27
    = (truncf .bf16 (shapeCast S256x1024 (pad S256x8x128 ![0, 0, 0] ![0, 0, 32] ![0, 0, 0]
        (shapeCast S256x8x96 (arg4 m c) shapeCasts_S256x768_S256x8x96 : FVec Ideal S256x8x96 .f32)
        (sitofp .f32 (constantI S_ 32 0#32) : FVec Ideal S_ .f32) pads_S256x8x96_S256x8x128_000_000_0320 h_S_ : FVec Ideal S256x8x128 .f32)
        shapeCasts_S256x8x128_S256x1024 : FVec Ideal S256x1024 .f32) bitsLt_bf16_f32 : FVec Ideal S256x1024 .bf16) := by
  unfold V
  simp only [hostOps0, hostOps0_1, hostOps0_2, hostOps0_3, hostOps0_4, List.flatten_cons, List.flatten_nil, List.append_nil, List.cons_append, List.nil_append]
  after_results <;> rfl

theorem entryK (c : Dev nD) : V m c main_v32
    = (truncf .bf16 (shapeCast S128x1024 (pad S128x8x128 ![0, 0, 0] ![0, 0, 64] ![0, 0, 0]
        (extractStridedSlice S128x8x64 ![0, 0, 0] (shapeCast S128x8x128 (arg5 m c) shapeCasts_S128x1024_S128x8x128 : FVec Ideal S128x8x128 .f32)
          slices_S128x8x128_S128x8x64_0_0_0 : FVec Ideal S128x8x64 .f32)
        (sitofp .f32 (constantI S_ 32 0#32) : FVec Ideal S_ .f32) pads_S128x8x64_S128x8x128_000_000_0640 h_S_ : FVec Ideal S128x8x128 .f32)
        shapeCasts_S128x8x128_S128x1024 : FVec Ideal S128x1024 .f32) bitsLt_bf16_f32 : FVec Ideal S128x1024 .bf16) := by
  unfold V
  simp only [hostOps0, hostOps0_1, hostOps0_2, hostOps0_3, hostOps0_4, List.flatten_cons, List.flatten_nil, List.append_nil, List.cons_append, List.nil_append]
  after_results <;> rfl

theorem entryV (c : Dev nD) : V m c main_v35
    = (truncf .bf16 (shapeCast S128x512
        (extractStridedSlice S128x8x64 ![0, 0, 64] (shapeCast S128x8x128 (arg5 m c) shapeCasts_S128x1024_S128x8x128 : FVec Ideal S128x8x128 .f32)
          slices_S128x8x128_S128x8x64_0_0_64 : FVec Ideal S128x8x64 .f32)
        shapeCasts_S128x8x64_S128x512 : FVec Ideal S128x512 .f32) bitsLt_bf16_f32 : FVec Ideal S128x512 .bf16) := by
  unfold V
  simp only [hostOps0, hostOps0_1, hostOps0_2, hostOps0_3, hostOps0_4, List.flatten_cons, List.flatten_nil, List.append_nil, List.cons_append, List.nil_append]
  after_results <;> rfl

theorem entryG (c : Dev nD) : V m c main_v36 = (shapeCast S1x256 (arg2 m c) shapeCasts_S256_S1x256 : FVec Ideal S1x256 .f32) := by
  unfold V
  simp only [hostOps0, hostOps0_1, hostOps0_2, hostOps0_3, hostOps0_4, List.flatten_cons, List.flatten_nil, List.append_nil, List.cons_append, List.nil_append]
  after_results <;> rfl

theorem entryH (c : Dev nD) : V m c main_v37 = (shapeCast S1x128 (arg3 m c) shapeCasts_S128_S1x128 : FVec Ideal S1x128 .f32) := by
  unfold V
  simp only [hostOps0, hostOps0_1, hostOps0_2, hostOps0_3, hostOps0_4, List.flatten_cons, List.flatten_nil, List.append_nil, List.cons_append, List.nil_append]
  after_results <;> rfl

/-- The cosine table's lane: ones, the cosines twice, zeros. -/
def cosLane (u : Fin 16 → EReal) (j : Fin 128) : EReal :=
  if h : j.val < 64 then 1 else if h1 : j.val - 64 < 16 then u ⟨j.val - 64, h1⟩ else if h2 : j.val - 64 - 16 < 16 then u ⟨j.val - 64 - 16, h2⟩ else 0

/-- The sine table's lane: zeros, the sines negated, the sines, zeros. -/
def sinLane (u : Fin 16 → EReal) (j : Fin 128) : EReal :=
  if h : j.val < 64 then 0 else if h1 : j.val - 64 < 16 then -u ⟨j.val - 64, h1⟩ else if h2 : j.val - 64 - 16 < 16 then u ⟨j.val - 64 - 16, h2⟩ else 0

/-- What the weights' padding is filled with. -/
theorem fill : (FloatOps.sitofp FTy.f32 0#32 : Ideal .f32) = (0 : EReal) := by
  show ((BitVec.toInt 0#32 : ℝ) : EReal) = 0
  simp

theorem blkP (c : Dev nD) (t : Fin cfg0.N) (r : Fin 512) (l : Fin 512) (R : Fin 16384) (hR : R.val = t.val * 512 + r.val) :
    (show FVec Ideal S512x512 .f32 from iblk m c 0 t) (ix2 r l) = arg0 m c (ix2 R l) := by
  blk_ext [iblk, V, idx t]

theorem blkCos (c : Dev nD) (t : Fin cfg0.N) (r : Fin 512) (j : Fin 128) (R : Fin 16384) (hR : R.val = t.val * 512 + r.val) :
    (show FVec Ideal S512x128 .f32 from iblk m c 1 t) (ix2 r j) = cosLane (fun i => cosine m c (ix2 R i)) j := by
  have e : ((cfg0.win 1).blk t).view.emb (ix2 r j) = (ix2 R j : S16384x128.Idx) := by
    blk_ext [idx t]
  show V m c main_v21 (((cfg0.win 1).blk t).view.emb (ix2 r j)) = _
  rw [e, entryCos]
  generalize cosine m c = u
  unfold cosLane
  pointwise

theorem blkSin (c : Dev nD) (t : Fin cfg0.N) (r : Fin 512) (j : Fin 128) (R : Fin 16384) (hR : R.val = t.val * 512 + r.val) :
    (show FVec Ideal S512x128 .f32 from iblk m c 2 t) (ix2 r j) = sinLane (fun i => sine m c (ix2 R i)) j := by
  have e : ((cfg0.win 2).blk t).view.emb (ix2 r j) = (ix2 R j : S16384x128.Idx) := by
    blk_ext [idx t]
  show V m c main_v23 (((cfg0.win 2).blk t).view.emb (ix2 r j)) = _
  rw [e, entrySin]
  generalize sine m c = u
  unfold sinLane
  pointwise

theorem blkG (c : Dev nD) (t : Fin cfg0.N) (k : Fin 256) :
    (show FVec Ideal S1x256 .f32 from iblk m c 3 t) (ix2 0 k) = arg2 m c (ix1 k) := by
  have e : ((cfg0.win 3).blk t).view.emb (ix2 0 k) = (ix2 0 k : S1x256.Idx) := by
    blk_ext [idx t]
  show V m c main_v36 (((cfg0.win 3).blk t).view.emb (ix2 0 k)) = _
  rw [e, entryG]
  pointwise

theorem blkH (c : Dev nD) (t : Fin cfg0.N) (k : Fin 128) :
    (show FVec Ideal S1x128 .f32 from iblk m c 4 t) (ix2 0 k) = arg3 m c (ix1 k) := by
  have e : ((cfg0.win 4).blk t).view.emb (ix2 0 k) = (ix2 0 k : S1x128.Idx) := by
    blk_ext [idx t]
  show V m c main_v37 (((cfg0.win 4).blk t).view.emb (ix2 0 k)) = _
  rw [e, entryH]
  pointwise

theorem blkQ (c : Dev nD) (t : Fin cfg0.N) (k : Fin 256) (l : Fin 1024) :
    (show FVec Ideal S256x1024 .bf16 from iblk m c 5 t) (ix2 k l)
      = if h : l.val % 128 < 96 then arg4 m c (ix2 k ⟨l.val / 128 * 96 + l.val % 128, by omega⟩) else 0 := by
  have e : ((cfg0.win 5).blk t).view.emb (ix2 k l) = (ix2 k l : S256x1024.Idx) := by
    blk_ext [idx t]
  show V m c main_v27 (((cfg0.win 5).blk t).view.emb (ix2 k l)) = _
  rw [e, entryQ]
  pointwise
  by_cases h : l.val % 128 < 96
  · rw [dif_pos h, dif_pos ⟨by omega, h⟩]
  · rw [dif_neg h, dif_neg fun g => h g.2, fill]

theorem blkK (c : Dev nD) (t : Fin cfg0.N) (k : Fin 128) (l : Fin 1024) :
    (show FVec Ideal S128x1024 .bf16 from iblk m c 6 t) (ix2 k l)
      = if h : l.val % 128 < 64 then arg5 m c (ix2 k l) else 0 := by
  have e : ((cfg0.win 6).blk t).view.emb (ix2 k l) = (ix2 k l : S128x1024.Idx) := by
    blk_ext [idx t]
  show V m c main_v32 (((cfg0.win 6).blk t).view.emb (ix2 k l)) = _
  rw [e, entryK]
  pointwise
  by_cases h : l.val % 128 < 64
  · rw [dif_pos h, dif_pos ⟨by omega, h⟩]
  · rw [dif_neg h, dif_neg fun g => h g.2, fill]

theorem blkV (c : Dev nD) (t : Fin cfg0.N) (k : Fin 128) (l : Fin 512) :
    (show FVec Ideal S128x512 .bf16 from iblk m c 7 t) (ix2 k l)
      = arg5 m c (ix2 k ⟨l.val / 64 * 128 + (64 + l.val % 64), by omega⟩) := by
  have e : ((cfg0.win 7).blk t).view.emb (ix2 k l) = (ix2 k l : S128x512.Idx) := by
    blk_ext [idx t]
  show V m c main_v35 (((cfg0.win 7).blk t).view.emb (ix2 k l)) = _
  rw [e, entryV]
  pointwise

/-- The turn by the tables: the first 64 lanes stay, the next 32 turn, the last 32 vanish. -/
theorem turn_lanes (t : Fin 128 → EReal) (u s : Fin 16 → EReal) (j : Fin 128) :
    turn t (cosLane u) (sinLane s) j
      = if h : j.val < 64 then t j
        else if h1 : j.val - 64 < 16 then t j * u ⟨j.val - 64, h1⟩ - t ⟨(16 + j.val) % 128, by omega⟩ * s ⟨j.val - 64, h1⟩
        else if h2 : j.val - 64 - 16 < 16 then t j * u ⟨j.val - 64 - 16, h2⟩ + t ⟨j.val - 16, by omega⟩ * s ⟨j.val - 64 - 16, h2⟩ else 0 := by
  unfold turn cosLane sinLane
  by_cases h : j.val < 64
  · rw [dif_pos h, dif_pos h, dif_pos h, mul_one, mul_zero, add_zero]
  rw [dif_neg h, dif_neg h, dif_neg h]
  by_cases h1 : j.val - 64 < 16
  · rw [dif_pos h1, dif_pos h1, dif_pos h1, if_pos (by omega), mul_neg, sub_eq_add_neg]
    have e : (j.val + 128 - 112) % 128 = (16 + j.val) % 128 := by omega
    simp only [e]
  rw [dif_neg h1, dif_neg h1, dif_neg h1]
  by_cases h2 : j.val - 64 - 16 < 16
  · rw [dif_pos h2, dif_pos h2, dif_pos h2, if_neg (by omega)]
    have e : (j.val + 128 - 16) % 128 = j.val - 16 := by omega
    simp only [e]
  · rw [dif_neg h2, dif_neg h2, dif_neg h2, mul_zero, mul_zero, add_zero]

theorem rms_congr {n : ℕ} {w : EReal} {u u' g g' : Fin n → EReal} (hu : ∀ i, u i = u' i) (hg : ∀ i, g i = g' i) (k : Fin n) :
    rms w u g k = rms w u' g' k := by
  rw [funext hu, funext hg]

section block

variable (c : Dev nD) (t : Fin cfg0.N) (r : Fin 512) (R : Fin 16384) (hR : R.val = t.val * 512 + r.val)

include hR

/-- A block's query lanes before the turn, where the head has any. -/
theorem lanesQ (l : Fin 1024) (h : l.val % 128 < 96) :
    k0_pay7 (F := Ideal) (iblk m c 0 t) (iblk m c 3 t) (iblk m c 5 t) (ix2 r l)
      = Cert.PrepRefIdeal.Read.val_main_v32 (F := Ideal) (arg0 m c) (arg2 m c) (arg4 m c) (ix2 R ⟨l.val / 128 * 96 + l.val % 128, by omega⟩) := by
  refine (pay7_apply _ _ _ r l).trans ((Finset.sum_congr rfl fun k _ => ?_).trans (q_apply _ _ _ R _).symm)
  exact Ideal.mul_congr (rms_congr (fun i => blkP m c t r _ R hR) (fun i => blkG m c t i) k) ((blkQ m c t k l).trans (dif_pos h))

theorem latent (k : Fin 128) :
    k0_pay6 (F := Ideal) (iblk m c 0 t) (iblk m c 4 t) (ix2 r k)
      = rms (Ideal.ofBits .f32 0x43000000#32) (fun i => arg0 m c (ix2 R ⟨256 + i.val, by omega⟩)) (fun i => arg3 m c (ix1 i)) k :=
  (pay6_apply _ _ r k).trans (rms_congr (fun i => blkP m c t r _ R hR) (fun i => blkH m c t i) k)

/-- A block's key lanes before the turned part is added: a head's last 64 are zero. -/
theorem lanesK (l : Fin 1024) :
    k0_pay8 (F := Ideal) (iblk m c 0 t) (iblk m c 4 t) (iblk m c 6 t) (ix2 r l)
      = if l.val % 128 < 64 then Cert.PrepRefIdeal.Read.val_main_v48 (F := Ideal) (arg0 m c) (arg3 m c) (arg5 m c) (ix2 R l) else 0 := by
  refine (pay8_apply _ _ _ r l).trans ?_
  by_cases h : l.val % 128 < 64
  · rw [if_pos h]
    refine (Finset.sum_congr rfl fun k _ => ?_).trans (kv_apply _ _ _ R _).symm
    exact Ideal.mul_congr (latent m c t r R hR k) ((blkK m c t k l).trans (dif_pos h))
  · rw [if_neg h]
    refine Finset.sum_eq_zero fun k _ => ?_
    exact (Ideal.mul_congr rfl ((blkK m c t k l).trans (dif_neg h))).trans (mul_zero _)

theorem lanesV (l : Fin 512) :
    k0_pay9 (F := Ideal) (k0_pay6 (F := Ideal) (iblk m c 0 t) (iblk m c 4 t)) (iblk m c 7 t) (ix2 r l)
      = Cert.PrepRefIdeal.Read.val_main_v93 (F := Ideal) (arg0 m c) (arg3 m c) (arg5 m c) (ix2 R l) := by
  refine (pay9_apply _ _ r l).trans ((Finset.sum_congr rfl fun k _ => ?_).trans ((v93_apply _ _ _ R l).trans (kv_apply _ _ _ R _)).symm)
  exact Ideal.mul_congr (latent m c t r R hR k) (blkV m c t k l)

theorem turned (f : Fin 128 → EReal) (j : Fin 128) :
    turn f (fun j => (show FVec Ideal S512x128 .f32 from iblk m c 1 t) (ix2 r j)) (fun j => (show FVec Ideal S512x128 .f32 from iblk m c 2 t) (ix2 r j)) j
      = turn f (cosLane fun i => cosine m c (ix2 R i)) (sinLane fun i => sine m c (ix2 R i)) j := by
  rw [funext fun j => blkCos m c t r j R hR, funext fun j => blkSin m c t r j R hR]

theorem queryAt (l : Fin 1024) :
    queries (k0_pay7 (F := Ideal) (iblk m c 0 t) (iblk m c 3 t) (iblk m c 5 t)) (iblk m c 1 t) (iblk m c 2 t) (ix2 r l)
      = Cert.PrepRefIdeal.Read.val_main_v87 (F := Ideal) (arg0 m c) (arg1 m c) (arg2 m c) (arg4 m c) (ix2 R l) := by
  refine Eq.trans ?_ (v87_apply _ _ _ _ R l).symm
  refine Eq.trans (Ideal.mul_congr ((turned m c t r R hR (fun j => k0_pay7 (F := Ideal) (iblk m c 0 t) (iblk m c 3 t) (iblk m c 5 t)
    (ix2 r ⟨l.val / 128 * 128 + j.val, by omega⟩)) ⟨l.val % 128, by omega⟩).trans (turn_lanes _ _ _ _)) rfl) ?_
  have lane : ∀ (n n' : ℕ) (hn : n < 1024) (hn' : n' < 768) (h : n % 128 < 96) (e : n / 128 * 96 + n % 128 = n'),
      k0_pay7 (F := Ideal) (iblk m c 0 t) (iblk m c 3 t) (iblk m c 5 t) (ix2 r ⟨n, hn⟩)
        = Cert.PrepRefIdeal.Read.val_main_v32 (F := Ideal) (arg0 m c) (arg2 m c) (arg4 m c) (ix2 R ⟨n', hn'⟩) := by
    rintro n n' hn hn' h rfl
    exact lanesQ m c t r R hR ⟨n, hn⟩ h
  by_cases h : l.val % 128 < 96
  · rw [dif_pos h]
    refine Ideal.mul_congr ?_ rfl
    by_cases h1 : l.val % 128 < 64
    · rw [dif_pos h1, dif_pos h1]
      refine lane _ _ _ _ ?_ ?_
      all_goals simp only []; omega
    rw [dif_neg h1, dif_neg h1]
    by_cases h2 : l.val % 128 - 64 < 16
    · rw [dif_pos h2, dif_pos h2]
      refine congrArg₂ (· - ·) (Ideal.mul_congr (lane _ _ _ _ ?_ ?_) rfl) (Ideal.mul_congr (lane _ _ _ _ ?_ ?_) rfl)
      all_goals simp only []; omega
    · rw [dif_neg h2, dif_neg h2, dif_pos (show l.val % 128 - 64 - 16 < 16 by omega)]
      refine Ideal.add_congr (Ideal.mul_congr (lane _ _ _ _ ?_ ?_) rfl) (Ideal.mul_congr (lane _ _ _ _ ?_ ?_) rfl)
      all_goals simp only []; omega
  · rw [dif_neg h, dif_neg (show ¬ l.val % 128 < 64 by omega), dif_neg (show ¬ l.val % 128 - 64 < 16 by omega),
      dif_neg (show ¬ l.val % 128 - 64 - 16 < 16 by omega), zero_mul]

/-- The rope block's lanes before the turned ones are zero, and so are the keys' own from there: each lane is one of the two. -/
theorem keyAt (hz : ∀ i : Fin 64, arg0 m c (ix2 R ⟨384 + i.val, by omega⟩) = 0) (l : Fin 1024) :
    k0_pay8 (F := Ideal) (iblk m c 0 t) (iblk m c 4 t) (iblk m c 6 t) (ix2 r l)
        + k0_pay13 (F := Ideal) (extractStridedSlice S512x128 ![0, 384] (show FVec Ideal S512x512 .f32 from iblk m c 0 t) slices_S512x512_o0_384_S512x128)
            (iblk m c 1 t) (iblk m c 2 t) (ix2 r ⟨l.val % 128, by omega⟩)
      = Cert.PrepRefIdeal.Read.val_main_v90 (F := Ideal) (arg0 m c) (arg1 m c) (arg3 m c) (arg5 m c) (ix2 R l) := by
  have lane : ∀ j : Fin 128, extractStridedSlice S512x128 ![0, 384] (show FVec Ideal S512x512 .f32 from iblk m c 0 t) slices_S512x512_o0_384_S512x128 (ix2 r j)
      = arg0 m c (ix2 R ⟨384 + j.val, by omega⟩) := by
    intro j
    refine Eq.trans ?_ (blkP m c t r ⟨384 + j.val, by omega⟩ R hR)
    generalize (show FVec Ideal S512x512 .f32 from iblk m c 0 t) = x
    pointwise
  have turn_eq : k0_pay13 (F := Ideal) (extractStridedSlice S512x128 ![0, 384] (show FVec Ideal S512x512 .f32 from iblk m c 0 t) slices_S512x512_o0_384_S512x128)
      (iblk m c 1 t) (iblk m c 2 t) (ix2 r ⟨l.val % 128, by omega⟩)
      = turn (fun j => arg0 m c (ix2 R ⟨384 + j.val, by omega⟩)) (cosLane fun i => cosine m c (ix2 R i)) (sinLane fun i => sine m c (ix2 R i)) ⟨l.val % 128, by omega⟩ := by
    refine (pay13_apply _ _ _ r _).trans ((turned m c t r R hR _ _).trans ?_)
    rw [funext lane]
  refine Eq.trans (Ideal.add_congr (lanesK m c t r R hR l) (turn_eq.trans (turn_lanes _ _ _ _))) ?_
  refine Eq.trans ?_ (v90_apply _ _ _ _ R l).symm
  have at_ : ∀ (n n' : ℕ) (hn : n < 512) (hn' : n' < 512), n = n' → arg0 m c (ix2 R ⟨n, hn⟩) = arg0 m c (ix2 R ⟨n', hn'⟩) := by
    rintro n _ hn hn' rfl
    rfl
  by_cases h1 : l.val % 128 < 64
  · rw [if_pos h1, dif_pos h1, dif_pos (show l.val % 128 < 96 by omega), dif_pos h1]
    exact (Ideal.add_congr rfl (hz ⟨l.val % 128, h1⟩)).trans (add_zero _)
  rw [if_neg h1, dif_neg h1, zero_add]
  by_cases h : l.val % 128 < 96
  · rw [dif_pos h, dif_neg h1]
    by_cases h2 : l.val % 128 - 64 < 16
    · rw [dif_pos h2, dif_pos h2]
      refine congrArg₂ (· - ·) (Ideal.mul_congr (at_ _ _ _ _ ?_) rfl) (Ideal.mul_congr (at_ _ _ _ _ ?_) rfl)
      all_goals simp only []; omega
    · rw [dif_neg h2, dif_neg h2, dif_pos (show l.val % 128 - 64 - 16 < 16 by omega)]
      refine Ideal.add_congr (Ideal.mul_congr (at_ _ _ _ _ ?_) rfl) (Ideal.mul_congr (at_ _ _ _ _ ?_) rfl)
      all_goals simp only []; omega
  · rw [dif_neg h, dif_neg (show ¬ l.val % 128 - 64 < 16 by omega), dif_neg (show ¬ l.val % 128 - 64 - 16 < 16 by omega)]

end block

section outs

variable (x0 : Vec Ideal S512x512 .f32) (x1 x2 : Vec Ideal S512x128 .f32) (x3 : Vec Ideal S1x256 .f32) (x4 : Vec Ideal S1x128 .f32)
  (x5 : Vec Ideal S256x1024 .bf16) (x6 : Vec Ideal S128x1024 .bf16) (x7 : Vec Ideal S128x512 .bf16)

theorem outQ (y : S512x1024.Idx) : out0_8 (F := Ideal) x0 x1 x2 x3 x4 x5 x6 x7 y = queries (k0_pay7 x0 x3 x5) x1 x2 y := by
  unfold_out out0_8
  simp (disch := decide) only [View.ld_unit_lit']
  exact canonQ _ _ _ _

theorem outK (r : Fin 512) (l : Fin 1024) : out0_9 (F := Ideal) x0 x1 x2 x3 x4 x5 x6 x7 (ix2 r l)
    = k0_pay8 x0 x4 x6 (ix2 r l) + k0_pay13 (extractStridedSlice S512x128 ![0, 384] x0 slices_S512x512_o0_384_S512x128) x1 x2 (ix2 r ⟨l.val % 128, by omega⟩) := by
  unfold_out out0_9
  simp (disch := decide) only [View.ld_unit_lit']
  refine (Cert.PrepIdeal.Value.canon9_eq x0 x4 x6 x1 x2 _).trans ?_
  refine Ideal.add_congr (congrArg _ (funext fun a => ?_)) (congrArg _ (funext fun a => ?_))
  all_goals match a with | ⟨0, _⟩ => rfl | ⟨1, _⟩ => rfl

theorem outV (y : S512x512.Idx) : out0_10 (F := Ideal) x0 x1 x2 x3 x4 x5 x6 x7 y = k0_pay9 (k0_pay6 x0 x4) x7 y := by
  frame_out

end outs

theorem pointQ (c : Dev nD) (t : Fin cfg0.N) (y : S512x1024.Idx) :
    out0_8 (iblk m c 0 t) (iblk m c 1 t) (iblk m c 2 t) (iblk m c 3 t) (iblk m c 4 t) (iblk m c 5 t) (iblk m c 6 t) (iblk m c 7 t) y
      = Cert.PrepRefIdeal.Read.val_main_v87 (F := Ideal) (arg0 m c) (arg1 m c) (arg2 m c) (arg4 m c) (((cfg0.win 8).blk t).view.emb y) := by
  have ht : t.val < 32 := (idx t).2.2.2.2.2.2.2.2.2.2.2
  idx_vars y
  have e : ((cfg0.win 8).blk t).view.emb (ix2 y0 y1) = (ix2 ⟨t.val * 512 + y0.val, by omega⟩ y1 : S16384x1024.Idx) := by
    blk_ext [idx t]
  rw [e]
  exact (outQ _ _ _ _ _ _ _ _ _).trans (queryAt m c t y0 _ rfl y1)

theorem pointK (c : Dev nD) (hz : ∀ (R : Fin 16384) (i : Fin 64), arg0 m c (ix2 R ⟨384 + i.val, by omega⟩) = 0)
    (t : Fin cfg0.N) (y : S512x1024.Idx) :
    out0_9 (iblk m c 0 t) (iblk m c 1 t) (iblk m c 2 t) (iblk m c 3 t) (iblk m c 4 t) (iblk m c 5 t) (iblk m c 6 t) (iblk m c 7 t) y
      = Cert.PrepRefIdeal.Read.val_main_v90 (F := Ideal) (arg0 m c) (arg1 m c) (arg3 m c) (arg5 m c) (((cfg0.win 9).blk t).view.emb y) := by
  have ht : t.val < 32 := (idx t).2.2.2.2.2.2.2.2.2.2.2
  idx_vars y
  have e : ((cfg0.win 9).blk t).view.emb (ix2 y0 y1) = (ix2 ⟨t.val * 512 + y0.val, by omega⟩ y1 : S16384x1024.Idx) := by
    blk_ext [idx t]
  rw [e]
  exact (outK _ _ _ _ _ _ _ _ y0 y1).trans (keyAt m c t y0 _ rfl (fun i => hz _ i) y1)

theorem pointV (c : Dev nD) (t : Fin cfg0.N) (y : S512x512.Idx) :
    out0_10 (iblk m c 0 t) (iblk m c 1 t) (iblk m c 2 t) (iblk m c 3 t) (iblk m c 4 t) (iblk m c 5 t) (iblk m c 6 t) (iblk m c 7 t) y
      = Cert.PrepRefIdeal.Read.val_main_v93 (F := Ideal) (arg0 m c) (arg3 m c) (arg5 m c) (((cfg0.win 10).blk t).view.emb y) := by
  have ht : t.val < 32 := (idx t).2.2.2.2.2.2.2.2.2.2.2
  idx_vars y
  have e : ((cfg0.win 10).blk t).view.emb (ix2 y0 y1) = (ix2 ⟨t.val * 512 + y0.val, by omega⟩ y1 : S16384x512.Idx) := by
    blk_ext [idx t]
  rw [e]
  exact (outV _ _ _ _ _ _ _ _ _).trans (lanesV m c t y0 _ rfl y1)

theorem finalQ (c : Dev nD) : (dats m 0 c).arrAt 8 (cfgs 0).N
      = Cert.PrepRefIdeal.Read.val_main_v87 (F := Ideal) (arg0 m c) (arg1 m c) (arg2 m c) (arg4 m c) := by
  refine (dats m 0 c).arrAt_eq_of_covers 8 _ (by decide +kernel) fun t hf y => ?_
  blk_simp
  rw [after0_8]
  exact pointQ m c t y

theorem finalK (c : Dev nD) (hz : ∀ (R : Fin 16384) (i : Fin 64), arg0 m c (ix2 R ⟨384 + i.val, by omega⟩) = 0) :
    (dats m 0 c).arrAt 9 (cfgs 0).N = Cert.PrepRefIdeal.Read.val_main_v90 (F := Ideal) (arg0 m c) (arg1 m c) (arg3 m c) (arg5 m c) := by
  refine (dats m 0 c).arrAt_eq_of_covers 9 _ (by decide +kernel) fun t hf y => ?_
  blk_simp
  rw [after0_9]
  exact pointK m c hz t y

theorem finalV (c : Dev nD) : (dats m 0 c).arrAt 10 (cfgs 0).N
      = Cert.PrepRefIdeal.Read.val_main_v93 (F := Ideal) (arg0 m c) (arg3 m c) (arg5 m c) := by
  refine (dats m 0 c).arrAt_eq_of_covers 10 _ (by decide +kernel) fun t hf y => ?_
  blk_simp
  rw [after0_10]
  exact pointV m c t y

end Cert.PrepIdeal.KerValue

end
-- ==== Proof.lean ====
/- `Cert.Claim`: the five kernels of the layer that this folder states run and leave their arguments alone,
   their idealizations are their own text, and the idealized attention, experts, input projection,
   output projection with its router, and latent preparation equal their references. -/
module

public import proofs.«01_k».proof.Defs
public import proofs.«01_k».proof.Proof.Gen.Attn.Frame
public import proofs.«01_k».proof.Proof.Gen.Moe.Frame
public import proofs.«01_k».proof.Proof.Gen.MoeIdeal.Frame
public import proofs.«01_k».proof.Proof.Gen.MoeRefIdeal.Run
public import proofs.«01_k».proof.Proof.Gen.InProj.Frame
public import proofs.«01_k».proof.Proof.Gen.InProjIdeal.Frame
public import proofs.«01_k».proof.Proof.Gen.InProjRefIdeal.Run
public import proofs.«01_k».proof.Proof.Gen.OutProj.Frame
public import proofs.«01_k».proof.Proof.Gen.OutProjIdeal.Frame
public import proofs.«01_k».proof.Proof.Gen.OutProjRefIdeal.Run
public import proofs.«01_k».proof.Proof.Gen.Prep.Frame
public import proofs.«01_k».proof.Proof.Gen.PrepIdeal.Frame
public import proofs.«01_k».proof.Proof.Gen.PrepRefIdeal.Run
public import proofs.«01_k».proof.Proof.AttnValue
public import proofs.«01_k».proof.Proof.MoeValue
public import proofs.«01_k».proof.Proof.InValue
public import proofs.«01_k».proof.Proof.OutCombine
public import proofs.«01_k».proof.Proof.PrepValue
public import proofs.«01_k».proof.Proof.Gen.MoeIdeal.Value
public import proofs.«01_k».proof.Proof.Gen.MoeRefIdeal.Read
public import proofs.«01_k».proof.Proof.Gen.InProjIdeal.Value
public import proofs.«01_k».proof.Proof.Gen.InProjRefIdeal.Read
public import proofs.«01_k».proof.Proof.Gen.OutProjIdeal.Value
public import proofs.«01_k».proof.Proof.Gen.OutProjRefIdeal.Read
public import proofs.«01_k».proof.Proof.Gen.PrepIdeal.Value
public import proofs.«01_k».proof.Proof.Gen.PrepRefIdeal.Read
public import Idealize.ShloMosaic.Lib.Claim
public import Idealize.ShloMosaic.Lib.Quiescent

@[expose] public section

set_option maxRecDepth 16384

noncomputable section

namespace Cert.Proof

open Idealize.ShloMosaic Idealize.SL.Sem

/-- The side condition of the precondition's one broadcast. -/
theorem pre_facts : Cert.Pre_finite_qk.Facts where
  bcast_S_S8x2048x1024 := by decide

/-- An extended real below `⊤` in absolute value is a real number. -/
theorem real_of_abs_lt {x : EReal} (h : max x (-x) < ⊤) : ∃ a : ℝ, x = (a : EReal) := by
  induction x using EReal.rec with
  | bot => simp at h
  | top => simp at h
  | coe a => exact ⟨a, rfl⟩

/-- The precondition's comparison, one element: the element is a real number. -/
theorem real_of_pre [hf : Cert.Pre_finite_qk.Facts] (x : FVec Ideal Cert.Pre_finite_qk.S8x2048x1024 .bf16)
    (h : cmpf .olt (Host.absf x) (broadcastInDim Cert.Pre_finite_qk.S8x2048x1024 ![] hf.bcast_S_S8x2048x1024
      (constant (F := Ideal) Cert.Pre_finite_qk.S_ .bf16 0x7F80#16)) = (fun _ => 1#1)) (i) :
    ∃ a : ℝ, x i = (a : EReal) := by
  have e := congrFun h i
  have t : (Ideal.ofBits .bf16 0x7F80#16) = ⊤ := by simp [Ideal.ofBits, Ideal.ieee]
  have e' : BitVec.ofBool (decide (max (x i) (-(x i)) < Ideal.ofBits .bf16 0x7F80#16)) = 1#1 := e
  rw [t] at e'
  exact real_of_abs_lt (by by_contra hn; simp [hn] at e')

/-- The side conditions of the router's precondition: one broadcast for each argument's shape. -/
theorem out_facts : Cert.Pre_finite_out.Facts where
  bcast_S_S16384x1024 := by decide
  bcast_S_S16384x512 := by decide
  bcast_S_S16384x256 := by decide
  bcast_S_S1024x1024 := by decide
  bcast_S_S1024 := by decide
  bcast_S_S1024x4 := by decide
  bcast_S_S4 := by decide
  bcast_S_S4x1024x4 := by decide
  bcast_S_S4x4 := by decide

/-- The router's precondition at a float32 argument of any shape: its elements are real numbers. -/
theorem real_wide {S : Shape} (hb : Cert.Pre_finite_out.S_.BroadcastsInDim S (![] : Fin 0 → Fin S.rank)) (x : FVec Ideal S .f32)
    (h : cmpf .olt (Host.absf x) (broadcastInDim S ![] hb
      (constant (F := Ideal) Cert.Pre_finite_out.S_ .f32 0x7F800000#32)) = (fun _ => 1#1)) (i) : Cert.Norm.IsReal (x i) := by
  have e := congrFun h i
  have t : (Ideal.ofBits .f32 0x7F800000#32) = ⊤ := by simp [Ideal.ofBits, Ideal.ieee]
  have e' : BitVec.ofBool (decide (max (x i) (-(x i)) < Ideal.ofBits .f32 0x7F800000#32)) = 1#1 := e
  rw [t] at e'
  exact real_of_abs_lt (by by_contra hn; simp [hn] at e')

/-- The same at a bfloat16 argument. -/
theorem real_narrow {S : Shape} (hb : Cert.Pre_finite_out.S_.BroadcastsInDim S (![] : Fin 0 → Fin S.rank)) (x : FVec Ideal S .bf16)
    (h : cmpf .olt (Host.absf x) (broadcastInDim S ![] hb
      (constant (F := Ideal) Cert.Pre_finite_out.S_ .bf16 0x7F80#16)) = (fun _ => 1#1)) (i) : Cert.Norm.IsReal (x i) := by
  have e := congrFun h i
  have t : (Ideal.ofBits .bf16 0x7F80#16) = ⊤ := by simp [Ideal.ofBits, Ideal.ieee]
  have e' : BitVec.ofBool (decide (max (x i) (-(x i)) < Ideal.ofBits .bf16 0x7F80#16)) = 1#1 := e
  rw [t] at e'
  exact real_of_abs_lt (by by_contra hn; simp [hn] at e')

/-- The side conditions of the latent preparation's precondition. -/
theorem gap_facts : Cert.Pre_zero_gap.Facts where
  slices_S16384x512_S16384x64_0_384 := by decide
  bcast_S_S16384x64 := by decide

/-- The latent preparation's precondition, one element: lanes 384 to 447 of the projected rows are zero. -/
theorem zero_of_gap [hf : Cert.Pre_zero_gap.Facts] (x : FVec Ideal Cert.Pre_zero_gap.S16384x512 .f32)
    (h : cmpf .oeq (extractStridedSlice Cert.Pre_zero_gap.S16384x64 ![0, 384] x hf.slices_S16384x512_S16384x64_0_384)
      (broadcastInDim Cert.Pre_zero_gap.S16384x64 ![] hf.bcast_S_S16384x64 (constant (F := Ideal) Cert.Pre_zero_gap.S_ .f32 0x00000000#32)) = (fun _ => 1#1))
    (R : Fin 16384) (i : Fin 64) : x (ix2 R ⟨384 + i.val, by omega⟩) = 0 := by
  have e := congrFun h (ix2 R i)
  have z : (Ideal.ofBits .f32 0x00000000#32) = 0 := by simp [Ideal.ofBits, Ideal.ieee]
  have a : extractStridedSlice Cert.Pre_zero_gap.S16384x64 ![0, 384] x hf.slices_S16384x512_S16384x64_0_384 (ix2 R i) = x (ix2 R ⟨384 + i.val, by omega⟩) := by
    pointwise
  have e' : BitVec.ofBool (decide (extractStridedSlice Cert.Pre_zero_gap.S16384x64 ![0, 384] x hf.slices_S16384x512_S16384x64_0_384 (ix2 R i)
    = Ideal.ofBits .f32 0x00000000#32)) = 1#1 := e
  rw [a, z] at e'
  by_contra hn
  simp [hn] at e'

theorem frame_Attn : Cert.quiescent_Attn (hAttn := Cert.Attn.Gen.facts) := fun m g _ => Cert.Attn.Gen.frame m g
theorem frame_AttnIdeal : Cert.quiescent_AttnIdeal (hAttnIdeal := Cert.AttnIdeal.Gen.facts) := fun m g _ => Cert.AttnIdeal.Gen.frame m g
theorem frame_AttnRefIdeal : Cert.quiescent_AttnRefIdeal (hAttnRefIdeal := Cert.AttnRefIdeal.Gen.facts) :=
  fun m g _ => (θ_run _ _ _).mono (fun _ h => ⟨fun c => (h c).2, sem_eq_zero_of_no_sems rfl _⟩) (Cert.AttnRefIdeal.Value.run m g)
theorem frame_Moe : Cert.quiescent_Moe (hMoe := Cert.Moe.Gen.facts) := fun m g _ => Cert.Moe.Gen.frame m g
theorem frame_MoeIdeal : Cert.quiescent_MoeIdeal (hMoeIdeal := Cert.MoeIdeal.Gen.facts) := fun m g _ => Cert.MoeIdeal.Gen.frame m g
theorem frame_MoeRefIdeal : Cert.quiescent_MoeRefIdeal (hMoeRefIdeal := Cert.MoeRefIdeal.Gen.facts) :=
  fun m g _ => (θ_run _ _ _).mono (fun _ h => ⟨fun c => (h c).2, sem_eq_zero_of_no_sems rfl _⟩) (Cert.MoeRefIdeal.Value.run m g)
theorem frame_InProj : Cert.quiescent_InProj (hInProj := Cert.InProj.Gen.facts) := fun m g _ => Cert.InProj.Gen.frame m g
theorem frame_InProjIdeal : Cert.quiescent_InProjIdeal (hInProjIdeal := Cert.InProjIdeal.Gen.facts) := fun m g _ => Cert.InProjIdeal.Gen.frame m g
theorem frame_InProjRefIdeal : Cert.quiescent_InProjRefIdeal (hInProjRefIdeal := Cert.InProjRefIdeal.Gen.facts) :=
  fun m g _ => (θ_run _ _ _).mono (fun _ h => ⟨fun c => (h c).2.2.2, sem_eq_zero_of_no_sems rfl _⟩) (Cert.InProjRefIdeal.Value.run m g)
theorem frame_OutProj : Cert.quiescent_OutProj (hOutProj := Cert.OutProj.Gen.facts) := fun m g _ => Cert.OutProj.Gen.frame m g
theorem frame_OutProjIdeal : Cert.quiescent_OutProjIdeal (hOutProjIdeal := Cert.OutProjIdeal.Gen.facts) := fun m g _ => Cert.OutProjIdeal.Gen.frame m g
theorem frame_OutProjRefIdeal : Cert.quiescent_OutProjRefIdeal (hOutProjRefIdeal := Cert.OutProjRefIdeal.Gen.facts) :=
  fun m g _ => (θ_run _ _ _).mono (fun _ h => ⟨fun c => (h c).2.2, sem_eq_zero_of_no_sems rfl _⟩) (Cert.OutProjRefIdeal.Value.run m g)
theorem frame_Prep : Cert.quiescent_Prep (hPrep := Cert.Prep.Gen.facts) := fun m g _ => Cert.Prep.Gen.frame m g
theorem frame_PrepIdeal : Cert.quiescent_PrepIdeal (hPrepIdeal := Cert.PrepIdeal.Gen.facts) := fun m g _ => Cert.PrepIdeal.Gen.frame m g
theorem frame_PrepRefIdeal : Cert.quiescent_PrepRefIdeal (hPrepRefIdeal := Cert.PrepRefIdeal.Gen.facts) :=
  fun m g _ => (θ_run _ _ _).mono (fun _ h => ⟨fun c => (h c).2.2.2, sem_eq_zero_of_no_sems rfl _⟩) (Cert.PrepRefIdeal.Value.run m g)

theorem frame_AttnIdeal_pre : Cert.quiescent_AttnIdeal_pre_finite_qk (hAttnIdeal := Cert.AttnIdeal.Gen.facts) (hPre_finite_qk := pre_facts) :=
  fun m g _ => Cert.AttnIdeal.Gen.frame m g
theorem frame_AttnRefIdeal_pre : Cert.quiescent_AttnRefIdeal_pre_finite_qk (hAttnRefIdeal := Cert.AttnRefIdeal.Gen.facts) (hPre_finite_qk := pre_facts) :=
  fun m g _ => (θ_run _ _ _).mono (fun _ h => ⟨fun c => (h c).2, sem_eq_zero_of_no_sems rfl _⟩) (Cert.AttnRefIdeal.Value.run m g)

theorem frame_OutProjIdeal_pre : Cert.quiescent_OutProjIdeal_pre_finite_out (hOutProjIdeal := Cert.OutProjIdeal.Gen.facts) (hPre_finite_out := out_facts) :=
  fun m g _ => Cert.OutProjIdeal.Gen.frame m g
theorem frame_OutProjRefIdeal_pre : Cert.quiescent_OutProjRefIdeal_pre_finite_out (hOutProjRefIdeal := Cert.OutProjRefIdeal.Gen.facts) (hPre_finite_out := out_facts) :=
  fun m g _ => (θ_run _ _ _).mono (fun _ h => ⟨fun c => (h c).2.2, sem_eq_zero_of_no_sems rfl _⟩) (Cert.OutProjRefIdeal.Value.run m g)

theorem frame_PrepIdeal_pre : Cert.quiescent_PrepIdeal_pre_zero_gap (hPrepIdeal := Cert.PrepIdeal.Gen.facts) (hPre_zero_gap := gap_facts) :=
  fun m g _ => Cert.PrepIdeal.Gen.frame m g
theorem frame_PrepRefIdeal_pre : Cert.quiescent_PrepRefIdeal_pre_zero_gap (hPrepRefIdeal := Cert.PrepRefIdeal.Gen.facts) (hPre_zero_gap := gap_facts) :=
  fun m g _ => (θ_run _ _ _).mono (fun _ h => ⟨fun c => (h c).2.2.2, sem_eq_zero_of_no_sems rfl _⟩) (Cert.PrepRefIdeal.Value.run m g)

theorem value_Attn : Cert.algebraic_AttnIdeal_AttnRefIdeal_pre_finite_qk (hAttnIdeal := Cert.AttnIdeal.Gen.facts)
    (hAttnRefIdeal := Cert.AttnRefIdeal.Gen.facts) (hPre_finite_qk := pre_facts) := by
  letI := pre_facts
  pair_intro
  · run_from Cert.AttnIdeal.Gen.run_main m g
  · run_from Cert.AttnRefIdeal.Value.run m' g'
    exact (Cert.AttnIdeal.KerValue.final m (fun c i => real_of_pre _ (hpre c).1 i) (fun c i => real_of_pre _ (hpre c).2 i) c).symm

theorem value_Moe : Cert.algebraic_MoeIdeal_MoeRefIdeal (hMoeIdeal := Cert.MoeIdeal.Gen.facts) (hMoeRefIdeal := Cert.MoeRefIdeal.Gen.facts) := by
  pair_intro
  · run_from Cert.MoeIdeal.Gen.run_main m g
  · run_from Cert.MoeRefIdeal.Value.run m' g'
    refine (Cert.MoeRefIdeal.Read.val_main_v35_eq m' c).trans ?_
    obtain ⟨h0, h1, h2, h3, h4, h5, h6⟩ := hagree c
    rw [h0, h1, h2, h3, h4, h5, h6]
    exact (Cert.MoeIdeal.KerValue.final m c).symm

theorem value_InProj : Cert.algebraic_InProjIdeal_InProjRefIdeal (hInProjIdeal := Cert.InProjIdeal.Gen.facts) (hInProjRefIdeal := Cert.InProjRefIdeal.Gen.facts) := by
  pair_intro
  · run_from Cert.InProjIdeal.Gen.run_main m g
  · run_from Cert.InProjRefIdeal.Value.run m' g'
    · exact (Cert.InProjIdeal.KerValue.finalA m c).symm
    · exact (Cert.InProjIdeal.KerValue.finalB m c).symm
    · exact (Cert.InProjIdeal.KerValue.finalC m c).symm

theorem value_OutProj : Cert.algebraic_OutProjIdeal_OutProjRefIdeal_pre_finite_out (hOutProjIdeal := Cert.OutProjIdeal.Gen.facts)
    (hOutProjRefIdeal := Cert.OutProjRefIdeal.Gen.facts) (hPre_finite_out := out_facts) := by
  letI := out_facts
  pair_intro
  · run_from Cert.OutProjIdeal.Gen.unchanged m g & Cert.OutProjIdeal.Gen.run_main m g
  · run_from Cert.OutProjRefIdeal.Value.run m' g'
    · refine (Cert.OutProjRefIdeal.Read.val_main_v31_eq (StableHlo.launchContents m' c)).trans ?_
      obtain ⟨h0, h1, h2, h3, h4, h5, h6, h7, h8, h9, h10⟩ := hagree c
      have e0 : StableHlo.launchContents m' c (Proc.devRef .tc Cert.OutProjRefIdeal.main_arg0) = _ := h0
      have e1 : StableHlo.launchContents m' c (Proc.devRef .tc Cert.OutProjRefIdeal.main_arg1) = _ := h1
      have e2 : StableHlo.launchContents m' c (Proc.devRef .tc Cert.OutProjRefIdeal.main_arg2) = _ := h2
      have e3 : StableHlo.launchContents m' c (Proc.devRef .tc Cert.OutProjRefIdeal.main_arg3) = _ := h3
      have e4 : StableHlo.launchContents m' c (Proc.devRef .tc Cert.OutProjRefIdeal.main_arg4) = _ := h4
      have e5 : StableHlo.launchContents m' c (Proc.devRef .tc Cert.OutProjRefIdeal.main_arg5) = _ := h5
      have e6 : StableHlo.launchContents m' c (Proc.devRef .tc Cert.OutProjRefIdeal.main_arg6) = _ := h6
      rw [e0, e1, e2, e3, e4, e5, e6]
      exact (Cert.OutProjIdeal.KerValue.finalX m c).symm
    · refine (Cert.OutProjRefIdeal.Read.val_main_v80_eq (StableHlo.launchContents m' c)).trans ?_
      obtain ⟨h0, h1, h2, h3, h4, h5, h6, h7, h8, h9, h10⟩ := hagree c
      have e0 : StableHlo.launchContents m' c (Proc.devRef .tc Cert.OutProjRefIdeal.main_arg0) = _ := h0
      have e1 : StableHlo.launchContents m' c (Proc.devRef .tc Cert.OutProjRefIdeal.main_arg1) = _ := h1
      have e2 : StableHlo.launchContents m' c (Proc.devRef .tc Cert.OutProjRefIdeal.main_arg2) = _ := h2
      have e3 : StableHlo.launchContents m' c (Proc.devRef .tc Cert.OutProjRefIdeal.main_arg3) = _ := h3
      have e4 : StableHlo.launchContents m' c (Proc.devRef .tc Cert.OutProjRefIdeal.main_arg4) = _ := h4
      have e5 : StableHlo.launchContents m' c (Proc.devRef .tc Cert.OutProjRefIdeal.main_arg5) = _ := h5
      have e6 : StableHlo.launchContents m' c (Proc.devRef .tc Cert.OutProjRefIdeal.main_arg6) = _ := h6
      have e7 : StableHlo.launchContents m' c (Proc.devRef .tc Cert.OutProjRefIdeal.main_arg7) = _ := h7
      have e8 : StableHlo.launchContents m' c (Proc.devRef .tc Cert.OutProjRefIdeal.main_arg8) = _ := h8
      have e9 : StableHlo.launchContents m' c (Proc.devRef .tc Cert.OutProjRefIdeal.main_arg9) = _ := h9
      have e10 : StableHlo.launchContents m' c (Proc.devRef .tc Cert.OutProjRefIdeal.main_arg10) = _ := h10
      rw [e0, e1, e2, e3, e4, e5, e6, e7, e8, e9, e10]
      obtain ⟨r0, r1, r2, r3, r4, r5, r6, r7, r8, r9, r10⟩ := hpre c
      exact (Cert.OutProjIdeal.KerValue.finalC m
        { h0 := real_wide _ _ r0, h1 := real_narrow _ _ r1, h2 := real_narrow _ _ r2, h3 := real_narrow _ _ r3,
          h4 := real_wide _ _ r4, h5 := real_wide _ _ r5, h6 := real_wide _ _ r6, h7 := real_wide _ _ r7,
          h8 := real_wide _ _ r8, h9 := real_wide _ _ r9, h10 := real_wide _ _ r10 }).symm

section prep

variable (m : (ℓ : Loc Cert.PrepIdeal.nD Cert.PrepIdeal.τ Cert.PrepIdeal.sig) → Buf (Elt Ideal) ℓ)
    (m' : (ℓ : Loc Cert.PrepRefIdeal.nD Cert.PrepRefIdeal.τ Cert.PrepRefIdeal.sig) → Buf (Elt Ideal) ℓ)
  (hagree : ∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5))

include hagree

/-- The reference's three results, on the kernel's arguments, are the kernel's. -/
theorem prep_queries (c : Dev Cert.PrepIdeal.nD) :
    Cert.PrepRefIdeal.Value.res_main_v87 m' c = (Cert.PrepIdeal.Gen.dats m 0 c).arrAt 8 (Cert.PrepIdeal.cfgs 0).N := by
  obtain ⟨h0, h1, h2, h3, h4, h5⟩ := hagree c
  refine (Cert.PrepRefIdeal.Read.val_main_v87_eq m' c).trans ?_
  rw [h0, h1, h2, h4]
  exact (Cert.PrepIdeal.KerValue.finalQ m c).symm

theorem prep_keys [Cert.Pre_zero_gap.Facts] (hpre : Cert.Pre_PrepIdeal_zero_gap m) (c : Dev Cert.PrepIdeal.nD) :
    Cert.PrepRefIdeal.Value.res_main_v90 m' c = (Cert.PrepIdeal.Gen.dats m 0 c).arrAt 9 (Cert.PrepIdeal.cfgs 0).N := by
  obtain ⟨h0, h1, h2, h3, h4, h5⟩ := hagree c
  refine (Cert.PrepRefIdeal.Read.val_main_v90_eq m' c).trans ?_
  rw [h0, h1, h3, h5]
  exact (Cert.PrepIdeal.KerValue.finalK m c (zero_of_gap _ (hpre c))).symm

theorem prep_values (c : Dev Cert.PrepIdeal.nD) :
    Cert.PrepRefIdeal.Read.val_main_v93 (F := Ideal) (m' ((c.tc : Thread Cert.PrepRefIdeal.nD Cert.PrepRefIdeal.τ).loc Cert.PrepRefIdeal.main_arg0)) (m' ((c.tc : Thread Cert.PrepRefIdeal.nD Cert.PrepRefIdeal.τ).loc Cert.PrepRefIdeal.main_arg3)) (m' ((c.tc : Thread Cert.PrepRefIdeal.nD Cert.PrepRefIdeal.τ).loc Cert.PrepRefIdeal.main_arg5))
      = (Cert.PrepIdeal.Gen.dats m 0 c).arrAt 10 (Cert.PrepIdeal.cfgs 0).N := by
  obtain ⟨h0, h1, h2, h3, h4, h5⟩ := hagree c
  rw [h0, h3, h5]
  exact (Cert.PrepIdeal.KerValue.finalV m c).symm

end prep

theorem value_Prep : Cert.algebraic_PrepIdeal_PrepRefIdeal_pre_zero_gap (hPrepIdeal := Cert.PrepIdeal.Gen.facts)
    (hPrepRefIdeal := Cert.PrepRefIdeal.Gen.facts) (hPre_zero_gap := gap_facts) := by
  letI := gap_facts
  pair_intro
  · run_from Cert.PrepIdeal.Gen.unchanged m g & Cert.PrepIdeal.Gen.run_main m g
  · exact (θ_run _ _ _).mono (fun _ h c => ⟨(h c).1.trans (prep_queries m m' hagree c), (h c).2.1.trans (prep_keys m m' hagree hpre c),
      (h c).2.2.1.trans (prep_values m m' hagree c), (h c).2.2.2⟩) (Cert.PrepRefIdeal.Value.run m' g')

theorem claim : Cert.Claim :=
  ⟨Cert.Attn.Gen.facts, Cert.AttnIdeal.Gen.facts, Cert.AttnRefIdeal.Gen.facts, Cert.Moe.Gen.facts, Cert.MoeIdeal.Gen.facts, Cert.MoeRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.Prep.Gen.facts, Cert.PrepIdeal.Gen.facts, Cert.PrepRefIdeal.Gen.facts, pre_facts, out_facts, gap_facts,
   frame_Attn, frame_AttnIdeal, frame_AttnIdeal_pre, frame_AttnRefIdeal, frame_AttnRefIdeal_pre, frame_Moe, frame_MoeIdeal, frame_MoeRefIdeal, frame_InProj, frame_InProjIdeal, frame_InProjRefIdeal, frame_OutProj, frame_OutProjIdeal, frame_OutProjIdeal_pre, frame_OutProjRefIdeal, frame_OutProjRefIdeal_pre, frame_Prep, frame_PrepIdeal, frame_PrepIdeal_pre, frame_PrepRefIdeal, frame_PrepRefIdeal_pre, trivial, trivial, trivial, trivial, trivial, value_Attn, value_Moe, value_InProj, value_OutProj, value_Prep⟩

end Cert.Proof

end
